-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 32, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 32, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x2048 : Shape := ⟨2, ![512, 2048]⟩
abbrev S2x256x4x64 : Shape := ⟨4, ![2, 256, 4, 64]⟩
abbrev S2048x512 : Shape := ⟨2, ![2048, 512]⟩
abbrev S_ : Shape := ⟨0, ![]⟩
abbrev S512x256 : Shape := ⟨2, ![512, 256]⟩
abbrev S256x512 : Shape := ⟨2, ![256, 512]⟩
abbrev S512x512 : Shape := ⟨2, ![512, 512]⟩
abbrev S8 : Shape := ⟨1, ![8]⟩
abbrev S7 : Shape := ⟨1, ![7]⟩
abbrev S256x256 : Shape := ⟨2, ![256, 256]⟩
abbrev S1x256x1x64 : Shape := ⟨4, ![1, 256, 1, 64]⟩
abbrev S256x64 : Shape := ⟨2, ![256, 64]⟩
abbrev S256 : Shape := ⟨1, ![256]⟩
abbrev S256x1 : Shape := ⟨2, ![256, 1]⟩
abbrev S1 : Shape := ⟨1, ![1]⟩
abbrev S64x512 : Shape := ⟨2, ![64, 512]⟩
abbrev S8x64x512 : Shape := ⟨3, ![8, 64, 512]⟩

abbrev nBuf : Space → Nat
  | .hbm => 30
  | .vmem => 9
  | .smem => 0
  | _ => 0

abbrev bufTy : (tb : Table) → Fin (tcTables nBuf tb) → BufTy
  | .hbm, ⟨0, _⟩ => ⟨S2x256x512, .bf16⟩
  | .hbm, ⟨1, _⟩ => ⟨S512x2048, .bf16⟩
  | .hbm, ⟨2, _⟩ => ⟨S2x256x4x64, .bf16⟩
  | .hbm, ⟨3, _⟩ => ⟨S2x256x4x64, .bf16⟩
  | .hbm, ⟨4, _⟩ => ⟨S2048x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .bf16⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S256x512, .bf16⟩
  | .hbm, ⟨29, _⟩ => ⟨S2x256x512, .bf16⟩
  | .local _ .vmem, ⟨0, _⟩ => ⟨S2x256x512, .bf16⟩
  | .local _ .vmem, ⟨1, _⟩ => ⟨S512x256, .bf16⟩
  | .local _ .vmem, ⟨2, _⟩ => ⟨S2x256x4x64, .bf16⟩
  | .local _ .vmem, ⟨3, _⟩ => ⟨S2x256x4x64, .bf16⟩
  | .local _ .vmem, ⟨4, _⟩ => ⟨S256x512, .bf16⟩
  | .local _ .vmem, ⟨5, _⟩ => ⟨S2x256x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let v189 : BitVec 1 := Scalar.cmpi .ne v2 c0_i32_105
  let v190 : BitVec 32 := Scalar.extui v189
  let c0_i32_107 : BitVec 32 := 0#32
  let v191 : BitVec 1 := Scalar.cmpi .ne v190 c0_i32_107
  v191

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_104 : BitVec 32 := 64#32
  let v188 : BitVec 32 := Scalar.muli v2 c64_i32_104
  let c0_i32_452 : BitVec 32 := 0#32
  ![v188.toNat, 0]
def k0_dev8 : Nat :=
  let c0_i32_451 : BitVec 32 := 0#32
  let c0_i32_449 : BitVec 32 := 0#32
  let c1_i32_450 : BitVec 32 := 1#32
  let v612 : BitVec 32 := Scalar.muli c0_i32_449 c1_i32_450
  let v613 : BitVec 32 := Scalar.addi c0_i32_451 v612
  v613.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_109 : BitVec 32 := 1#32
  let v193 : BitVec 1 := Scalar.cmpi .ne v2 c1_i32_109
  let v194 : BitVec 32 := Scalar.extui v193
  let c0_i32_111 : BitVec 32 := 0#32
  let v195 : BitVec 1 := Scalar.cmpi .ne v194 c0_i32_111
  v195

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_108 : BitVec 32 := 64#32
  let v192 : BitVec 32 := Scalar.muli v2 c64_i32_108
  let c0_i32_452 : BitVec 32 := 0#32
  ![v192.toNat, 0]
def k0_dev9 : Nat :=
  let c0_i32_451 : BitVec 32 := 0#32
  let c1_i32_449 : BitVec 32 := 1#32
  let c1_i32_450 : BitVec 32 := 1#32
  let v612 : BitVec 32 := Scalar.muli c1_i32_449 c1_i32_450
  let v613 : BitVec 32 := Scalar.addi c0_i32_451 v612
  v613.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_113 : BitVec 32 := 2#32
  let v197 : BitVec 1 := Scalar.cmpi .ne v2 c2_i32_113
  let v198 : BitVec 32 := Scalar.extui v197
  let c0_i32_115 : BitVec 32 := 0#32
  let v199 : BitVec 1 := Scalar.cmpi .ne v198 c0_i32_115
  v199

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_112 : BitVec 32 := 64#32
  let v196 : BitVec 32 := Scalar.muli v2 c64_i32_112
  let c0_i32_452 : BitVec 32 := 0#32
  ![v196.toNat, 0]
def k0_dev10 : Nat :=
  let c0_i32_451 : BitVec 32 := 0#32
  let c2_i32_449 : BitVec 32 := 2#32
  let c1_i32_450 : BitVec 32 := 1#32
  let v612 : BitVec 32 := Scalar.muli c2_i32_449 c1_i32_450
  let v613 : BitVec 32 := Scalar.addi c0_i32_451 v612
  v613.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_117 : BitVec 32 := 3#32
  let v201 : BitVec 1 := Scalar.cmpi .ne v2 c3_i32_117
  let v202 : BitVec 32 := Scalar.extui v201
  let c0_i32_119 : BitVec 32 := 0#32
  let v203 : BitVec 1 := Scalar.cmpi .ne v202 c0_i32_119
  v203

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_116 : BitVec 32 := 64#32
  let v200 : BitVec 32 := Scalar.muli v2 c64_i32_116
  let c0_i32_452 : BitVec 32 := 0#32
  ![v200.toNat, 0]
def k0_dev11 : Nat :=
  let c0_i32_451 : BitVec 32 := 0#32
  let c3_i32_449 : BitVec 32 := 3#32
  let c1_i32_450 : BitVec 32 := 1#32
  let v612 : BitVec 32 := Scalar.muli c3_i32_449 c1_i32_450
  let v613 : BitVec 32 := Scalar.addi c0_i32_451 v612
  v613.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_179 : BitVec 32 := 4#32
  let v300 : BitVec 1 := Scalar.cmpi .ne v2 c4_i32_179
  let v301 : BitVec 32 := Scalar.extui v300
  let c0_i32_181 : BitVec 32 := 0#32
  let v302 : BitVec 1 := Scalar.cmpi .ne v301 c0_i32_181
  v302

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_178 : BitVec 32 := 64#32
  let v299 : BitVec 32 := Scalar.muli v2 c64_i32_178
  let c0_i32_452 : BitVec 32 := 0#32
  ![v299.toNat, 0]
def k0_dev12 : Nat :=
  let c0_i32_451 : BitVec 32 := 0#32
  let c4_i32_449 : BitVec 32 := 4#32
  let c1_i32_450 : BitVec 32 := 1#32
  let v612 : BitVec 32 := Scalar.muli c4_i32_449 c1_i32_450
  let v613 : BitVec 32 := Scalar.addi c0_i32_451 v612
  v613.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_183 : BitVec 32 := 5#32
  let v304 : BitVec 1 := Scalar.cmpi .ne v2 c5_i32_183
  let v305 : BitVec 32 := Scalar.extui v304
  let c0_i32_185 : BitVec 32 := 0#32
  let v306 : BitVec 1 := Scalar.cmpi .ne v305 c0_i32_185
  v306

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_182 : BitVec 32 := 64#32
  let v303 : BitVec 32 := Scalar.muli v2 c64_i32_182
  let c0_i32_452 : BitVec 32 := 0#32
  ![v303.toNat, 0]
def k0_dev13 : Nat :=
  let c0_i32_451 : BitVec 32 := 0#32
  let c5_i32_449 : BitVec 32 := 5#32
  let c1_i32_450 : BitVec 32 := 1#32
  let v612 : BitVec 32 := Scalar.muli c5_i32_449 c1_i32_450
  let v613 : BitVec 32 := Scalar.addi c0_i32_451 v612
  v613.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_187 : BitVec 32 := 6#32
  let v308 : BitVec 1 := Scalar.cmpi .ne v2 c6_i32_187
  let v309 : BitVec 32 := Scalar.extui v308
  let c0_i32_189 : BitVec 32 := 0#32
  let v310 : BitVec 1 := Scalar.cmpi .ne v309 c0_i32_189
  v310

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_186 : BitVec 32 := 64#32
  let v307 : BitVec 32 := Scalar.muli v2 c64_i32_186
  let c0_i32_452 : BitVec 32 := 0#32
  ![v307.toNat, 0]
def k0_dev14 : Nat :=
  let c0_i32_451 : BitVec 32 := 0#32
  let c6_i32_449 : BitVec 32 := 6#32
  let c1_i32_450 : BitVec 32 := 1#32
  let v612 : BitVec 32 := Scalar.muli c6_i32_449 c1_i32_450
  let v613 : BitVec 32 := Scalar.addi c0_i32_451 v612
  v613.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_191 : BitVec 32 := 7#32
  let v312 : BitVec 1 := Scalar.cmpi .ne v2 c7_i32_191
  let v313 : BitVec 32 := Scalar.extui v312
  let c0_i32_193 : BitVec 32 := 0#32
  let v314 : BitVec 1 := Scalar.cmpi .ne v313 c0_i32_193
  v314

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_190 : BitVec 32 := 64#32
  let v311 : BitVec 32 := Scalar.muli v2 c64_i32_190
  let c0_i32_452 : BitVec 32 := 0#32
  ![v311.toNat, 0]
def k0_dev15 : Nat :=
  let c0_i32_451 : BitVec 32 := 0#32
  let c7_i32_449 : BitVec 32 := 7#32
  let c1_i32_450 : BitVec 32 := 1#32
  let v612 : BitVec 32 := Scalar.muli c7_i32_449 c1_i32_450
  let v613 : BitVec 32 := Scalar.addi c0_i32_451 v612
  v613.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_194 : BitVec 32 := 64#32
  let v315 : BitVec 32 := Scalar.muli v2 c64_i32_194
  let v316 : Index := Scalar.indexCast v315
  let c0_195 : Index := 0#32
  ![v316.toNat, 0]
def k0_off18 (d0 : Dev nD) (c1_i32_198 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v323 : BitVec 32 := Scalar.addi v2 c1_i32_198
  let c8_i32_199 : BitVec 32 := 8#32
  let v324 : BitVec 32 := Scalar.remsi v323 c8_i32_199
  ![v324.toNat]
def k0_off19 (d0 : Dev nD) (c1_i32_198 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v323 : BitVec 32 := Scalar.addi v2 c1_i32_198
  let c8_i32_199 : BitVec 32 := 8#32
  let v324 : BitVec 32 := Scalar.remsi v323 c8_i32_199
  let c64_i32_201 : BitVec 32 := 64#32
  let v326 : BitVec 32 := Scalar.muli v324 c64_i32_201
  let c0_i32_205 : BitVec 32 := 0#32
  ![v326.toNat, 0]
def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_269 : BitVec 32 := 64#32
  let v406 : BitVec 32 := Scalar.muli v2 c64_i32_269
  let c0_i32_273 : BitVec 32 := 0#32
  ![v406.toNat, 0]
def k0_dev16 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_266 : BitVec 32 := 1#32
  let v403 : BitVec 32 := Scalar.addi v2 c1_i32_266
  let c8_i32_267 : BitVec 32 := 8#32
  let v404 : BitVec 32 := Scalar.remsi v403 c8_i32_267
  let c1_i32_271 : BitVec 32 := 1#32
  let v407 : BitVec 32 := Scalar.muli v404 c1_i32_271
  let v408 : BitVec 32 := Scalar.addi c0_i32_272 v407
  v408.toNat
def k0_dev17 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_275 : BitVec 32 := 2#32
  let v415 : BitVec 32 := Scalar.addi v2 c2_i32_275
  let c8_i32_276 : BitVec 32 := 8#32
  let v416 : BitVec 32 := Scalar.remsi v415 c8_i32_276
  let c1_i32_280 : BitVec 32 := 1#32
  let v419 : BitVec 32 := Scalar.muli v416 c1_i32_280
  let v420 : BitVec 32 := Scalar.addi c0_i32_281 v419
  v420.toNat
def k0_dev18 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_284 : BitVec 32 := 3#32
  let v427 : BitVec 32 := Scalar.addi v2 c3_i32_284
  let c8_i32_285 : BitVec 32 := 8#32
  let v428 : BitVec 32 := Scalar.remsi v427 c8_i32_285
  let c1_i32_289 : BitVec 32 := 1#32
  let v431 : BitVec 32 := Scalar.muli v428 c1_i32_289
  let v432 : BitVec 32 := Scalar.addi c0_i32_290 v431
  v432.toNat
def k0_dev19 (d0 : Dev nD) : Nat :=
  let c0_i32_299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_293 : BitVec 32 := 4#32
  let v439 : BitVec 32 := Scalar.addi v2 c4_i32_293
  let c8_i32_294 : BitVec 32 := 8#32
  let v440 : BitVec 32 := Scalar.remsi v439 c8_i32_294
  let c1_i32_298 : BitVec 32 := 1#32
  let v443 : BitVec 32 := Scalar.muli v440 c1_i32_298
  let v444 : BitVec 32 := Scalar.addi c0_i32_299 v443
  v444.toNat
def k0_dev20 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_302 : BitVec 32 := 5#32
  let v451 : BitVec 32 := Scalar.addi v2 c5_i32_302
  let c8_i32_303 : BitVec 32 := 8#32
  let v452 : BitVec 32 := Scalar.remsi v451 c8_i32_303
  let c1_i32_307 : BitVec 32 := 1#32
  let v455 : BitVec 32 := Scalar.muli v452 c1_i32_307
  let v456 : BitVec 32 := Scalar.addi c0_i32_308 v455
  v456.toNat
def k0_dev21 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_311 : BitVec 32 := 6#32
  let v463 : BitVec 32 := Scalar.addi v2 c6_i32_311
  let c8_i32_312 : BitVec 32 := 8#32
  let v464 : BitVec 32 := Scalar.remsi v463 c8_i32_312
  let c1_i32_316 : BitVec 32 := 1#32
  let v467 : BitVec 32 := Scalar.muli v464 c1_i32_316
  let v468 : BitVec 32 := Scalar.addi c0_i32_317 v467
  v468.toNat
def k0_dev22 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_320 : BitVec 32 := 7#32
  let v475 : BitVec 32 := Scalar.addi v2 c7_i32_320
  let c8_i32_321 : BitVec 32 := 8#32
  let v476 : BitVec 32 := Scalar.remsi v475 c8_i32_321
  let c1_i32_325 : BitVec 32 := 1#32
  let v479 : BitVec 32 := Scalar.muli v476 c1_i32_325
  let v480 : BitVec 32 := Scalar.addi c0_i32_326 v479
  v480.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_397 : BitVec 32 := 0#32
  let v560 : BitVec 1 := Scalar.cmpi .ne v2 c0_i32_397
  let v561 : BitVec 32 := Scalar.extui v560
  let c0_i32_399 : BitVec 32 := 0#32
  let v562 : BitVec 1 := Scalar.cmpi .ne v561 c0_i32_399
  v562

def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_104 : BitVec 32 := 64#32
  let v188 : BitVec 32 := Scalar.muli v2 c64_i32_104
  let c0_i32_453 : BitVec 32 := 0#32
  ![v188.toNat, 0]
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_400 : BitVec 32 := 1#32
  let v563 : BitVec 1 := Scalar.cmpi .ne v2 c1_i32_400
  let v564 : BitVec 32 := Scalar.extui v563
  let c0_i32_402 : BitVec 32 := 0#32
  let v565 : BitVec 1 := Scalar.cmpi .ne v564 c0_i32_402
  v565

def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_108 : BitVec 32 := 64#32
  let v192 : BitVec 32 := Scalar.muli v2 c64_i32_108
  let c0_i32_453 : BitVec 32 := 0#32
  ![v192.toNat, 0]
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_403 : BitVec 32 := 2#32
  let v566 : BitVec 1 := Scalar.cmpi .ne v2 c2_i32_403
  let v567 : BitVec 32 := Scalar.extui v566
  let c0_i32_405 : BitVec 32 := 0#32
  let v568 : BitVec 1 := Scalar.cmpi .ne v567 c0_i32_405
  v568

def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_112 : BitVec 32 := 64#32
  let v196 : BitVec 32 := Scalar.muli v2 c64_i32_112
  let c0_i32_452 : BitVec 32 := 0#32
  ![v196.toNat, 0]
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_406 : BitVec 32 := 3#32
  let v569 : BitVec 1 := Scalar.cmpi .ne v2 c3_i32_406
  let v570 : BitVec 32 := Scalar.extui v569
  let c0_i32_408 : BitVec 32 := 0#32
  let v571 : BitVec 1 := Scalar.cmpi .ne v570 c0_i32_408
  v571

def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_116 : BitVec 32 := 64#32
  let v200 : BitVec 32 := Scalar.muli v2 c64_i32_116
  let c0_i32_452 : BitVec 32 := 0#32
  ![v200.toNat, 0]
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_409 : BitVec 32 := 4#32
  let v572 : BitVec 1 := Scalar.cmpi .ne v2 c4_i32_409
  let v573 : BitVec 32 := Scalar.extui v572
  let c0_i32_411 : BitVec 32 := 0#32
  let v574 : BitVec 1 := Scalar.cmpi .ne v573 c0_i32_411
  v574

def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_178 : BitVec 32 := 64#32
  let v299 : BitVec 32 := Scalar.muli v2 c64_i32_178
  let c0_i32_452 : BitVec 32 := 0#32
  ![v299.toNat, 0]
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_412 : BitVec 32 := 5#32
  let v575 : BitVec 1 := Scalar.cmpi .ne v2 c5_i32_412
  let v576 : BitVec 32 := Scalar.extui v575
  let c0_i32_414 : BitVec 32 := 0#32
  let v577 : BitVec 1 := Scalar.cmpi .ne v576 c0_i32_414
  v577

def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_182 : BitVec 32 := 64#32
  let v303 : BitVec 32 := Scalar.muli v2 c64_i32_182
  let c0_i32_452 : BitVec 32 := 0#32
  ![v303.toNat, 0]
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_415 : BitVec 32 := 6#32
  let v578 : BitVec 1 := Scalar.cmpi .ne v2 c6_i32_415
  let v579 : BitVec 32 := Scalar.extui v578
  let c0_i32_417 : BitVec 32 := 0#32
  let v580 : BitVec 1 := Scalar.cmpi .ne v579 c0_i32_417
  v580

def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_186 : BitVec 32 := 64#32
  let v307 : BitVec 32 := Scalar.muli v2 c64_i32_186
  let c0_i32_452 : BitVec 32 := 0#32
  ![v307.toNat, 0]
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_418 : BitVec 32 := 7#32
  let v581 : BitVec 1 := Scalar.cmpi .ne v2 c7_i32_418
  let v582 : BitVec 32 := Scalar.extui v581
  let c0_i32_420 : BitVec 32 := 0#32
  let v583 : BitVec 1 := Scalar.cmpi .ne v582 c0_i32_420
  v583

def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_190 : BitVec 32 := 64#32
  let v311 : BitVec 32 := Scalar.muli v2 c64_i32_190
  let c0_i32_452 : BitVec 32 := 0#32
  ![v311.toNat, 0]
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x2048 : Shape := ⟨2, ![512, 2048]⟩
abbrev S2x256x32x64 : Shape := ⟨4, ![2, 256, 32, 64]⟩
abbrev S2048x512 : Shape := ⟨2, ![2048, 512]⟩
abbrev S2x256x2048 : Shape := ⟨3, ![2, 256, 2048]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x32x256x256 : Shape := ⟨4, ![2, 32, 256, 256]⟩
abbrev S1x1x256x256 : Shape := ⟨4, ![1, 1, 256, 256]⟩
abbrev S2x32x256 : Shape := ⟨3, ![2, 32, 256]⟩
abbrev S2x32x256x1 : Shape := ⟨4, ![2, 32, 256, 1]⟩
abbrev S1x1x256x1 : Shape := ⟨4, ![1, 1, 256, 1]⟩
abbrev S2x32x64x256 : Shape := ⟨4, ![2, 32, 64, 256]⟩

abbrev nBuf : Space → Nat
  | .hbm => 95
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x2048, .bf16⟩
  | .hbm, ⟨2, _⟩ => ⟨S2x256x32x64, .bf16⟩
  | .hbm, ⟨3, _⟩ => ⟨S2x256x32x64, .bf16⟩
  | .hbm, ⟨4, _⟩ => ⟨S2048x512, .bf16⟩
  | .hbm, ⟨5, _⟩ => ⟨S2x256x2048, .f32⟩
  | .hbm, ⟨6, _⟩ => ⟨S2x256x2048, .bf16⟩
  | .hbm, ⟨7, _⟩ => ⟨S2x256x32x64, .bf16⟩
  | .hbm, ⟨8, _⟩ => ⟨S256, .i32⟩
  | .hbm, ⟨9, _⟩ => ⟨S_, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256x1, .i32⟩
  | .hbm, ⟨28, _⟩ => ⟨S256, .i32⟩
  | .hbm, ⟨29, _⟩ => ⟨S_, .i32⟩
  | .hbm, ⟨30, _⟩ => ⟨S_, .i32⟩
  | .hbm, ⟨31, _⟩ => ⟨S256, .i32⟩
  | .hbm, ⟨32, _⟩ => ⟨S256, .i32⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S256, .i1⟩
  | .hbm, ⟨43, _⟩ => ⟨S_, .i32⟩
  | .hbm, ⟨44, _⟩ => ⟨S256, .i32⟩
  | .hbm, ⟨45, _⟩ => ⟨S256, .i32⟩
  | .hbm, ⟨46, _⟩ => ⟨S256, .i32⟩
  | .hbm, ⟨47, _⟩ => ⟨S1x256, .i32⟩
  | .hbm, ⟨48, _⟩ => ⟨S256x256, .i32⟩
  | .hbm, ⟨49, _⟩ => ⟨S256x256, .i32⟩
  | .hbm, ⟨50, _⟩ => ⟨S256x256, .i1⟩
  | .hbm, ⟨51, _⟩ => ⟨S2x32x256x256, .f32⟩
  | .hbm, ⟨52, _⟩ => ⟨S2x32x256x256, .bf16⟩
  | .hbm, ⟨53, _⟩ => ⟨S2x32x256x256, .f32⟩
  | .hbm, ⟨54, _⟩ => ⟨S_, .f32⟩
  | .hbm, ⟨55, _⟩ => ⟨S2x32x256x256, .f32⟩
  | .hbm, ⟨56, _⟩ => ⟨S2x32x256x256, .f32⟩
  | .hbm, ⟨57, _⟩ => ⟨S1x1x256x256, .i1⟩
  | .hbm, ⟨58, _⟩ => ⟨S_, .f32⟩
  | .hbm, ⟨59, _⟩ => ⟨S_, .f32⟩
  | .hbm, ⟨60, _⟩ => ⟨S2x32x256x256, .i1⟩
  | .hbm, ⟨61, _⟩ => ⟨S2x32x256x256, .f32⟩
  | .hbm, ⟨62, _⟩ => ⟨S2x32x256x256, .f32⟩
  | .hbm, ⟨63, _⟩ => ⟨S_, .f32⟩
  | .hbm, ⟨64, _⟩ => ⟨S2x32x256, .f32⟩
  | .hbm, ⟨65, _⟩ => ⟨S2x32x256x1, .f32⟩
  | .hbm, ⟨66, _⟩ => ⟨S2x32x256x256, .f32⟩
  | .hbm, ⟨67, _⟩ => ⟨S2x32x256x256, .f32⟩
  | .hbm, ⟨68, _⟩ => ⟨S2x32x256x256, .f32⟩
  | .hbm, ⟨69, _⟩ => ⟨S_, .i1⟩
  | .hbm, ⟨70, _⟩ => ⟨S256, .i1⟩
  | .hbm, ⟨71, _⟩ => ⟨S1x1x256x1, .i1⟩
  | .hbm, ⟨72, _⟩ => ⟨S_, .f32⟩
  | .hbm, ⟨73, _⟩ => ⟨S2x32x256, .f32⟩
  | .hbm, ⟨74, _⟩ => ⟨S2x32x256x1, .f32⟩
  | .hbm, ⟨75, _⟩ => ⟨S_, .f32⟩
  | .hbm, ⟨76, _⟩ => ⟨S_, .f32⟩
  | .hbm, ⟨77, _⟩ => ⟨S2x32x256x1, .i1⟩
  | .hbm, ⟨78, _⟩ => ⟨S2x32x256x1, .f32⟩
  | .hbm, ⟨79, _⟩ => ⟨S2x32x256x1, .f32⟩
  | .hbm, ⟨80, _⟩ => ⟨S2x32x256x256, .f32⟩
  | .hbm, ⟨81, _⟩ => ⟨S2x32x256x256, .f32⟩
  | .hbm, ⟨82, _⟩ => ⟨S1x1x256x1, .i1⟩
  | .hbm, ⟨83, _⟩ => ⟨S_, .f32⟩
  | .hbm, ⟨84, _⟩ => ⟨S_, .f32⟩
  | .hbm, ⟨85, _⟩ => ⟨S2x32x256x256, .i1⟩
  | .hbm, ⟨86, _⟩ => ⟨S2x32x256x256, .f32⟩
  | .hbm, ⟨87, _⟩ => ⟨S2x32x256x256, .f32⟩
  | .hbm, ⟨88, _⟩ => ⟨S2x256x32x64, .f32⟩
  | .hbm, ⟨89, _⟩ => ⟨S2x32x64x256, .f32⟩
  | .hbm, ⟨90, _⟩ => ⟨S2x256x32x64, .f32⟩
  | .hbm, ⟨91, _⟩ => ⟨S2x256x2048, .f32⟩
  | .hbm, ⟨92, _⟩ => ⟨S2048x512, .f32⟩
  | .hbm, ⟨93, _⟩ => ⟨S2x256x512, .f32⟩
  | .hbm, ⟨94, _⟩ => ⟨S2x256x512, .bf16⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_3 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩

abbrev nD : Nat := 1
abbrev τ : Topo := Topo.v7x

variable {F : FTy → Type} [FloatOps F]
-- ==== Proof.Proto.lean ====
/-
The protocol of the kernel: the semaphore cells, the row segments of the three buffers the devices exchange, what each
segment holds, and the schedule saying which signal or copy brings what.

Every device signals every other device's barrier and waits for seven signals; a signal carries the right to write one
row segment of each landing buffer of its sender. A device then copies segment `t` of its partial product to device `t`,
adds up the eight segments it holds, and copies the sum to every other device.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Regions
public import Idealize.ShloMosaic.Lib.Pipeline.RegionTalk
public import Idealize.ShloMosaic.Lib.Rounds
public import Idealize.ShloMosaic.Lib.ShareLeaves
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- One duty of a cell per device. -/
abbrev D : Type := Fin 8
abbrev UX : Type := URounds (GSem nD τ sig) D
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## The semaphores and the cells -/

abbrev barS : Sem sig := 0
set_option backward.proofsInPublic true in
/-- Signalled when segment `t` of the partial product has been read by the copy to device `t`. -/
def rsS (t : Fin 8) : DmaSem sig := ⟨6 + t.val, by have := t.isLt; show 6 + t.val < 37; omega⟩
set_option backward.proofsInPublic true in
/-- Signalled when device `s`'s segment has landed. -/
def rsR (s : Fin 8) : DmaSem sig := ⟨14 + s.val, by have := s.isLt; show 14 + s.val < 37; omega⟩
set_option backward.proofsInPublic true in
/-- Signalled when the `j`-th copy of the summed segment has been read. -/
def agS (j : Fin 7) : DmaSem sig := ⟨22 + j.val, by have := j.isLt; show 22 + j.val < 37; omega⟩
set_option backward.proofsInPublic true in
/-- Signalled when device `s`'s summed segment has landed. -/
def agR (s : Fin 8) : DmaSem sig := ⟨29 + s.val, by have := s.isLt; show 29 + s.val < 37; omega⟩

abbrev barC (c : Dev nD) : GSem nD τ sig := ((c : Thread nD τ), .reg barS)
abbrev rsSC (c : Dev nD) (t : Fin 8) : GSem nD τ sig := ((c : Thread nD τ), .dma (rsS t))
abbrev rsRC (c : Dev nD) (s : Fin 8) : GSem nD τ sig := ((c : Thread nD τ), .dma (rsR s))
abbrev agSC (c : Dev nD) (j : Fin 7) : GSem nD τ sig := ((c : Thread nD τ), .dma (agS j))
abbrev agRC (c : Dev nD) (s : Fin 8) : GSem nD τ sig := ((c : Thread nD τ), .dma (agR s))

/-- What a semaphore is for. -/
inductive Role where
  | bar | rsSend (t : Fin 8) | rsRecv (s : Fin 8) | agSend (j : Fin 7) | agRecv (s : Fin 8) | off
  deriving DecidableEq

set_option backward.proofsInPublic true in
def role : SemLoc sig → Role
  | .reg s => if s = barS then .bar else .off
  | .dma q =>
    if h : q.val < 6 then .off else if h₁ : q.val < 14 then .rsSend ⟨q.val - 6, by omega⟩
    else if h₂ : q.val < 22 then .rsRecv ⟨q.val - 14, by omega⟩ else if h₃ : q.val < 29 then .agSend ⟨q.val - 22, by omega⟩
    else .agRecv ⟨q.val - 29, by have : q.val < 37 := q.isLt; omega⟩

theorem role_bar : role (.reg barS) = .bar := by decide
theorem role_rsS (t : Fin 8) : role (.dma (rsS t)) = .rsSend t := by revert t; decide
theorem role_rsR (t : Fin 8) : role (.dma (rsR t)) = .rsRecv t := by revert t; decide
theorem role_agS (t : Fin 7) : role (.dma (agS t)) = .agSend t := by revert t; decide
theorem role_agR (t : Fin 8) : role (.dma (agR t)) = .agRecv t := by revert t; decide

/-! ## The buffers and their row segments -/

/-- A device's own partial product. -/
abbrev sndM : Memref sig .tc .vmem S512x512 .bf16 := Memref.whole cc0_scratch0
/-- Where the segments to be summed land. -/
abbrev rsM : Memref sig .tc .vmem S512x512 .bf16 := Memref.whole cc0_scratch1
/-- Where the summed segments land. -/
abbrev agM : Memref sig .tc .vmem S512x512 .bf16 := Memref.whole cc0_scratch2

def segOff (s : Fin 8) : Fin 2 → Nat := ![64 * s.val, 0]
theorem segOff_inb (s : Fin 8) (a : Fin 2) : segOff s a + S64x512.size a ≤ S512x512.size a := by revert s a; decide

abbrev segR (s : Fin 8) : Rect S512x512 := Rect.unit (s := S512x512) (segOff s) S64x512.size (segOff_inb s)
/-- Rows `64 s … 64 s + 63`. -/
abbrev segM (b : Memref sig .tc .vmem S512x512 .bf16) (s : Fin 8) : Memref sig .tc .vmem S64x512 .bf16 :=
  b.slice (segR s) (fun _ => rfl)

theorem segM_eq (b : Memref sig .tc .vmem S512x512 .bf16) (s : Fin 8) {off : Fin 2 → Nat} (h : off = segOff s)
    {inb : ∀ a, off a + S64x512.size a ≤ S512x512.size a} :
    (b.slice (Rect.unit (s := S512x512) off S64x512.size inb) (fun _ => rfl) : Memref sig .tc .vmem S64x512 .bf16) = segM b s := by
  subst h; rfl

abbrev N : ℕ := (segM rsM 0).view.dmaCredit
theorem N_pos : 0 < N := View.dmaCredit_pos _ (by decide)
theorem N_snd (s : Fin 8) : (segM sndM s).view.dmaCredit = N := rfl
theorem N_rs (s : Fin 8) : (segM rsM s).view.dmaCredit = N := rfl
theorem N_ag (s : Fin 8) : (segM agM s).view.dmaCredit = N := rfl

/-- The segment an index lies in, and its place there. -/
def segOf (i : S512x512.Idx) : Fin 8 := ⟨(i 0).val / 64, by have : (i 0).val < 512 := (i 0).isLt; omega⟩
def locOf (i : S512x512.Idx) : S64x512.Idx :=
  Shape.pair (d := ![64, 512]) ⟨(i 0).val % 64, Nat.mod_lt _ (by decide)⟩ (i 1)

theorem segR_emb_zero (s : Fin 8) (j : S64x512.Idx) : (((segR s).emb j) 0).val = 64 * s.val + (j 0).val := by
  rw [Rect.emb_apply]; show segOff s 0 + 1 * (j 0).val = _; rw [Nat.one_mul]; rfl
theorem segR_emb_one (s : Fin 8) (j : S64x512.Idx) : (((segR s).emb j) 1).val = (j 1).val := by
  rw [Rect.emb_apply]; show segOff s 1 + 1 * (j 1).val = _; rw [Nat.one_mul]; show 0 + _ = _; rw [Nat.zero_add]

theorem segOf_emb (s : Fin 8) (j : S64x512.Idx) : segOf ((segR s).emb j) = s := by
  apply Fin.ext; show (((segR s).emb j) 0).val / 64 = s.val
  rw [segR_emb_zero]; have : (j 0).val < 64 := (j 0).isLt; omega
theorem locOf_emb (s : Fin 8) (j : S64x512.Idx) : locOf ((segR s).emb j) = j := by
  funext a; apply Fin.ext
  match a with
  | 0 => show (((segR s).emb j) 0).val % 64 = (j 0).val
         rw [segR_emb_zero]; have : (j 0).val < 64 := (j 0).isLt; omega
  | 1 => exact segR_emb_one s j
theorem emb_locOf (i : S512x512.Idx) : (segR (segOf i)).emb (locOf i) = i := by
  funext a; apply Fin.ext
  match a with
  | 0 => rw [segR_emb_zero]; show 64 * ((i 0).val / 64) + (i 0).val % 64 = (i 0).val; omega
  | 1 => exact segR_emb_one _ _

theorem mem_segR (s : Fin 8) (i : S512x512.Idx) : i ∈ (segR s).set ↔ segOf i = s := by
  rw [← Rect.map_emb_univ, Finset.mem_map]
  constructor
  · rintro ⟨j, -, hj⟩; rw [← hj]; exact segOf_emb s j
  · rintro rfl; exact ⟨locOf i, Finset.mem_univ _, emb_locOf i⟩

theorem segR_disjoint {s t : Fin 8} (h : s ≠ t) : Disjoint (segR s).set (segR t).set :=
  Finset.disjoint_left.mpr fun i hs ht => h (((mem_segR s i).mp hs).symm.trans ((mem_segR t i).mp ht))
theorem segR_union : (Finset.univ : Finset (Fin 8)).biUnion (fun s => (segR s).set) = Finset.univ := by
  ext i; simp only [Finset.mem_biUnion, Finset.mem_univ, true_and, iff_true]; exact ⟨segOf i, (mem_segR _ i).mpr rfl⟩

theorem set_snd (s : Fin 8) : (segM sndM s).view.set = (segR s).set := View.set_slice_whole _ _
theorem set_rs (s : Fin 8) : (segM rsM s).view.set = (segR s).set := View.set_slice_whole _ _
theorem set_ag (s : Fin 8) : (segM agM s).view.set = (segR s).set := View.set_slice_whole _ _

/-- Segment `s` of one of device `c`'s three buffers, at share `q`, holding `f` there. -/
def sndP (c : Dev nD) (s : Fin 8) (q : PosShare TreeShare) (f : Vec F S512x512 .bf16) : sProp 𝕄 :=
  (segM sndM s).view.loc (c : Thread nD τ) ↦[(segM sndM s).view.set]{q} f
def rsP (c : Dev nD) (s : Fin 8) (q : PosShare TreeShare) (f : Vec F S512x512 .bf16) : sProp 𝕄 :=
  (segM rsM s).view.loc (c : Thread nD τ) ↦[(segM rsM s).view.set]{q} f
def agP (c : Dev nD) (s : Fin 8) (q : PosShare TreeShare) (f : Vec F S512x512 .bf16) : sProp 𝕄 :=
  (segM agM s).view.loc (c : Thread nD τ) ↦[(segM agM s).view.set]{q} f

instance sndP_storable (c : Dev nD) (s q) (f : Vec F S512x512 .bf16) : BI.Storable (upEmb : UEmb _ 𝕄) (sndP c s q f) := by unfold sndP; infer_instance
instance rsP_storable (c : Dev nD) (s q) (f : Vec F S512x512 .bf16) : BI.Storable (upEmb : UEmb _ 𝕄) (rsP c s q f) := by unfold rsP; infer_instance
instance agP_storable (c : Dev nD) (s q) (f : Vec F S512x512 .bf16) : BI.Storable (upEmb : UEmb _ 𝕄) (agP c s q f) := by unfold agP; infer_instance

/-- A buffer held whole is its eight segments. -/
theorem snd_split (c : Dev nD) (q) (f : Vec F S512x512 .bf16) :
    ((((c : Thread nD τ).loc cc0_scratch0) ↦{q} f : sProp 𝕄)) = bigSep Finset.univ fun s => sndP c s q f := by
  have key := pointsTo_biUnion (Ix := Unit) (Name := ℕ) (U := UU) (Lvl := ℕ) (ℓ := (c : Thread nD τ).loc cc0_scratch0) (q := q) (f := f)
    Finset.univ (fun s : Fin 8 => (segR s).set) fun s _ t _ h => segR_disjoint h
  rw [segR_union] at key
  exact key.trans (bigSep_congr fun s _ => by unfold sndP; rw [set_snd])
theorem rs_split (c : Dev nD) (q) (f : Vec F S512x512 .bf16) :
    ((((c : Thread nD τ).loc cc0_scratch1) ↦{q} f : sProp 𝕄)) = bigSep Finset.univ fun s => rsP c s q f := by
  have key := pointsTo_biUnion (Ix := Unit) (Name := ℕ) (U := UU) (Lvl := ℕ) (ℓ := (c : Thread nD τ).loc cc0_scratch1) (q := q) (f := f)
    Finset.univ (fun s : Fin 8 => (segR s).set) fun s _ t _ h => segR_disjoint h
  rw [segR_union] at key
  exact key.trans (bigSep_congr fun s _ => by unfold rsP; rw [set_rs])
theorem ag_split (c : Dev nD) (q) (f : Vec F S512x512 .bf16) :
    ((((c : Thread nD τ).loc cc0_scratch2) ↦{q} f : sProp 𝕄)) = bigSep Finset.univ fun s => agP c s q f := by
  have key := pointsTo_biUnion (Ix := Unit) (Name := ℕ) (U := UU) (Lvl := ℕ) (ℓ := (c : Thread nD τ).loc cc0_scratch2) (q := q) (f := f)
    Finset.univ (fun s : Fin 8 => (segR s).set) fun s _ t _ h => segR_disjoint h
  rw [segR_union] at key
  exact key.trans (bigSep_congr fun s _ => by unfold agP; rw [set_ag])

/-- Only the segment's own rows matter. -/
theorem sndP_congr (c : Dev nD) (s q) {f g : Vec F S512x512 .bf16} (h : ∀ j, f ((segR s).emb j) = g ((segR s).emb j)) : (sndP c s q f : sProp 𝕄) = sndP c s q g := by
  unfold sndP; refine pointsTo_congr fun i hi => ?_
  rw [set_snd] at hi; have e := (mem_segR s i).mp hi
  have := h (locOf i); rw [← e, emb_locOf] at this; exact this
theorem rsP_congr (c : Dev nD) (s q) {f g : Vec F S512x512 .bf16} (h : ∀ j, f ((segR s).emb j) = g ((segR s).emb j)) : (rsP c s q f : sProp 𝕄) = rsP c s q g := by
  unfold rsP; refine pointsTo_congr fun i hi => ?_
  rw [set_rs] at hi; have e := (mem_segR s i).mp hi
  have := h (locOf i); rw [← e, emb_locOf] at this; exact this
theorem agP_congr (c : Dev nD) (s q) {f g : Vec F S512x512 .bf16} (h : ∀ j, f ((segR s).emb j) = g ((segR s).emb j)) : (agP c s q f : sProp 𝕄) = agP c s q g := by
  unfold agP; refine pointsTo_congr fun i hi => ?_
  rw [set_ag] at hi; have e := (mem_segR s i).mp hi
  have := h (locOf i); rw [← e, emb_locOf] at this; exact this

/-! ## What the buffers hold, from the partial products `A` of the devices -/

section Contents

variable (A : Dev nD → Vec F S512x512 .bf16)

/-- Device `t`'s landing buffer after the exchange: segment `s` is device `s`'s partial product at rows of segment `t`. -/
def rsC (t : Dev nD) : Vec F S512x512 .bf16 := fun i => A (segOf i) ((segR t).emb (locOf i))
/-- The summed segment of device `s`. -/
def summed (s : Dev nD) : FVec F S64x512 .bf16 := k0_pay25 (rsC A s)
/-- The gathered sums, the same on every device. -/
def agC : Vec F S512x512 .bf16 := fun i => summed A (segOf i) (locOf i)

theorem rsC_emb (t s : Fin 8) (j : S64x512.Idx) : rsC A t ((segR s).emb j) = A s ((segR t).emb j) := by
  unfold rsC; rw [segOf_emb, locOf_emb]
theorem agC_emb (s : Fin 8) (j : S64x512.Idx) : agC A ((segR s).emb j) = summed A s j := by
  unfold agC; rw [segOf_emb, locOf_emb]

/-! ## The schedule -/

/-- The share the `j`-th copy of the summed segment reads it at; share `0` stays with the device. -/
def leaf8 (j : Fin 8) : PosShare TreeShare := ShareLeaves.leaf 3 fullShare j

/-- What device `d`'s signal brings device `c`: the right to write segment `c` of its two landing buffers. -/
def barPay (c d : Dev nD) : sProp 𝕄 :=
  iprop((∃ f, rsP d c fullShare f) ∗ (∃ f, agP d c fullShare f) ∗ reached ER (rsRC d c) 0 ∗ reached ER (agRC d c) 0)

instance barPay_storable (c d : Dev nD) : BI.Storable (upEmb : UEmb _ 𝕄) (barPay (F := F) c d) := by unfold barPay; infer_instance

def dutyOf (c : Dev nD) : Role → Finset D
  | .bar => Finset.univ.erase c
  | .rsSend t => if t = c then ∅ else {0}
  | .rsRecv s => if s = c then ∅ else {0}
  | .agSend _ => {0}
  | .agRecv s => if s = c then ∅ else {0}
  | .off => ∅

def amountOf : Role → ℕ
  | .bar => 1
  | _ => N

def payOf (c : Dev nD) (d : D) : Role → sProp 𝕄
  | .bar => barPay c d
  | .rsSend t => sndP c t fullShare (A c)
  | .rsRecv s => rsP c s fullShare (rsC A c)
  | .agSend j => agP c c (leaf8 j.succ) (agC A)
  | .agRecv s => agP c s fullShare (agC A)
  | .off => iprop(emp)

def sched : Rounds.Schedule (GSem nD τ sig) D 𝕄 where
  duties g r := if r = 0 ∧ g.1.2 = .tc then dutyOf g.1.1 (role g.2) else ∅
  unitless _ := False
  amount g _ _ := amountOf (role g.2)
  payload g _ d := payOf A g.1.1 d (role g.2)
  amount_pos g _ _ _ := by
    cases role g.2 <;> first | exact Nat.one_pos | exact N_pos

instance sched_storable (g : GSem nD τ sig) (r : ℕ) (d : D) : BI.Storable (upEmb : UEmb _ 𝕄) ((sched A).payload g r d) := by
  show BI.Storable upEmb (payOf A g.1.1 d (role g.2))
  cases role g.2 <;> (unfold payOf; infer_instance)

theorem duties_zero (c : Dev nD) (sm : SemLoc sig) : (sched A).duties ((c : Thread nD τ), sm) 0 = dutyOf c (role sm) := by
  dsimp only [sched]; exact if_pos ⟨rfl, rfl⟩
theorem duties_later (g : GSem nD τ sig) : ∀ r, 1 ≤ r → (sched A).duties g r = ∅ := fun r hr => if_neg fun h => by omega
theorem duties_none (g : GSem nD τ sig) (h : dutyOf g.1.1 (role g.2) = ∅) : ∀ r, 0 ≤ r → (sched A).duties g r = ∅ := fun r _ => by
  show (if _ then _ else _) = _; rw [h, ite_self]
theorem amount_at (c : Dev nD) (sm : SemLoc sig) (r : ℕ) (d : D) : (sched A).amount ((c : Thread nD τ), sm) r d = amountOf (role sm) := rfl
theorem payload_at (c : Dev nD) (sm : SemLoc sig) (r : ℕ) (d : D) : (sched A).payload ((c : Thread nD τ), sm) r d = payOf A c d (role sm) := rfl

theorem expect_bar (c : Dev nD) : (sched A).expect (barC c) 0 = 7 := by
  unfold Schedule.expect Schedule.amountOf
  rw [duties_zero, role_bar]
  rw [Finset.sum_congr rfl fun d _ => show (sched A).amount (barC c) 0 d = 1 by rw [amount_at, role_bar]; rfl]
  rw [Finset.sum_const, show dutyOf c .bar = Finset.univ.erase c from rfl, Finset.card_erase_of_mem (Finset.mem_univ _)]; rfl
/-- A cell with one duty expects one segment's credit. -/
theorem expect_one (c : Dev nD) (sm : SemLoc sig) (h : dutyOf c (role sm) = {0}) (ha : amountOf (role sm) = N) :
    (sched A).expect ((c : Thread nD τ), sm) 0 = N := by
  unfold Schedule.expect Schedule.amountOf; rw [duties_zero, h, Finset.sum_singleton, amount_at, ha]
theorem rest_one (c : Dev nD) (sm : SemLoc sig) (h : dutyOf c (role sm) = {0}) :
    bigSep ((sched A).duties ((c : Thread nD τ), sm) 0 \ ∅) (fun d => (sched A).payload ((c : Thread nD τ), sm) 0 d) = payOf A c 0 (role sm) := by
  rw [Finset.sdiff_empty, duties_zero, h, bigSep_singleton, payload_at]
theorem rest_bar (c : Dev nD) :
    bigSep ((sched A).duties (barC c) 0 \ ∅) (fun d => (sched A).payload (barC c) 0 d) = bigSep (Finset.univ.erase c) (fun d => barPay c d) := by
  rw [Finset.sdiff_empty, duties_zero, role_bar]
  exact bigSep_congr fun d _ => by rw [payload_at, role_bar]; rfl

end Contents

/-! ## What a device still owes, and the order in which the cells are waited for -/

/-- The signals to the devices in `B`, the segment copies to those in `R`, the sum copies to those in `G`. -/
def Orem (c : Dev nD) (B R G : Finset (Fin 8)) : CellTallies nD τ sig Unit :=
  ∑ t ∈ B, tallyAt (barC t) () 1 + ∑ t ∈ R, tallyAt (rsRC t c) () N + ∑ t ∈ G, tallyAt (agRC t c) () N

theorem Orem_bar (c : Dev nD) (B R G : Finset (Fin 8)) (t : Fin 8) (h : t ∈ B) : Orem c B R G = Orem c (B.erase t) R G + tallyAt (barC t) () 1 := by
  unfold Orem; rw [← Finset.add_sum_erase B _ h]; ac_rfl
theorem Orem_rs (c : Dev nD) (B R G : Finset (Fin 8)) (t : Fin 8) (h : t ∈ R) : Orem c B R G = Orem c B (R.erase t) G + tallyAt (rsRC t c) () N := by
  unfold Orem; rw [← Finset.add_sum_erase R _ h]; ac_rfl
theorem Orem_ag (c : Dev nD) (B R G : Finset (Fin 8)) (t : Fin 8) (h : t ∈ G) : Orem c B R G = Orem c B R (G.erase t) + tallyAt (agRC t c) () N := by
  unfold Orem; rw [← Finset.add_sum_erase G _ h]; ac_rfl
theorem Orem_nil (c : Dev nD) : Orem c ∅ ∅ ∅ = 0 := by unfold Orem; simp only [Finset.sum_empty, add_zero]

/-- What each device owes when the kernel starts. -/
def O₀ (c : Dev nD) : CellTallies nD τ sig Unit := Orem c (Finset.univ.erase c) (Finset.univ.erase c) (Finset.univ.erase c)

theorem sum_tally_pos (S : Finset (Fin 8)) (f : Fin 8 → GSem nD τ sig) (k : ℕ) (g : GSem nD τ sig) (u : Unit)
    (h : 0 < (∑ t ∈ S, tallyAt (f t) () k : CellTallies nD τ sig Unit) g u) : ∃ t ∈ S, g = f t := by
  by_contra hn
  push Not at hn
  rw [Finset.sum_apply, Finsupp.finset_sum_apply, Finset.sum_eq_zero fun t ht => by rw [tallyAt_apply, if_neg fun h' => hn t ht h'.1]] at h
  exact Nat.lt_irrefl 0 h

theorem Orem_pos {c : Dev nD} {B R G : Finset (Fin 8)} {g : GSem nD τ sig} {u : Unit} (h : 0 < Orem c B R G g u) :
    (∃ t ∈ B, g = barC t) ∨ (∃ t ∈ R, g = rsRC t c) ∨ ∃ t ∈ G, g = agRC t c := by
  unfold Orem at h
  rw [Pi.add_apply, Finsupp.add_apply, Pi.add_apply, Finsupp.add_apply] at h
  rcases Nat.pos_of_ne_zero (Nat.ne_of_gt h) |> fun h => (by omega :
      0 < (∑ t ∈ B, tallyAt (barC t) () 1 : CellTallies nD τ sig Unit) g u ∨ 0 < (∑ t ∈ R, tallyAt (rsRC t c) () N : CellTallies nD τ sig Unit) g u
      ∨ 0 < (∑ t ∈ G, tallyAt (agRC t c) () N : CellTallies nD τ sig Unit) g u) with h | h | h
  · exact .inl (sum_tally_pos _ _ _ _ _ h)
  · exact .inr (.inl (sum_tally_pos _ (fun t => rsRC t c) _ _ _ h))
  · exact .inr (.inr (sum_tally_pos _ (fun t => agRC t c) _ _ _ h))

def L (g : GSem nD τ sig) : Finset Unit := if g.1.2 = .tc then {()} else ∅
def lvRole : Role → ℕ
  | .bar => 1 | .rsRecv _ => 2 | .agRecv _ => 3 | _ => 0
def lv (g : GSem nD τ sig) (_ : Unit) : ℕ := lvRole (role g.2)

theorem L_of_ne (g : GSem nD τ sig) (h : g.1.2 ≠ .tc) : L g = ∅ := if_neg h
theorem L_tc (c : Dev nD) (sm : SemLoc sig) : L ((c : Thread nD τ), sm) = {()} := if_pos rfl

/-- A wait is allowed when everything still owed lies at a later stage. -/
theorem mayWait_of (c : Dev nD) (sm : SemLoc sig) (B R G : Finset (Fin 8))
    (hB : B.Nonempty → lvRole (role sm) < 1) (hR : R.Nonempty → lvRole (role sm) < 2) (hG : G.Nonempty → lvRole (role sm) < 3) :
    (levAts L lv : sProp 𝕄) ⊢ MayWait (c : Thread nD τ) sm () (Orem c B R G) :=
  MayOwe.of_cut (L := L) (lev := lv) (lvRole (role sm)) (fun p hp => by rw [Finset.mem_singleton.mp hp, L_tc]; exact Finset.mem_singleton_self _)
    (fun g u hg => by rcases Orem_pos hg with ⟨t, _, rfl⟩ | ⟨t, _, rfl⟩ | ⟨t, _, rfl⟩ <;> exact Finset.mem_singleton_self _)
    (fun p hp => by rw [Finset.mem_singleton.mp hp]; exact Nat.le_refl _)
    (fun g u hg => by
      rcases Orem_pos hg with ⟨t, ht, rfl⟩ | ⟨t, ht, rfl⟩ | ⟨t, ht, rfl⟩ <;> dsimp only [lv]
      · rw [role_bar]; exact hB ⟨t, ht⟩
      · rw [role_rsR]; exact hR ⟨t, ht⟩
      · rw [role_agR]; exact hG ⟨t, ht⟩)

end Cert.KernelIdeal.Exchange
-- ==== Proof.Steps.lean ====
/-
One rule per kind of statement of the kernel that talks to another device: the barrier signals and wait, the two kinds of
copies and the four kinds of waits, each stated on the set of devices still to be served.
-/
module

public import proofs.«01_k».proof.Proof.Proto

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## Taking one member out of a finite family -/

theorem take_eq {I : Type} [DecidableEq I] {s : Finset I} {i : I} (h : i ∈ s) (Φ : I → sProp 𝕄) : bigSep s Φ = iprop(Φ i ∗ bigSep (s.erase i) Φ) :=
  BI.bigSep_erase h
theorem take_one {I : Type} [DecidableEq I] {s : Finset I} {i : I} (h : i ∈ s) (Φ : I → sProp 𝕄) : (bigSep s Φ : sProp 𝕄) ⊢ Φ i :=
  BI.bigSep_elim h

/-! ## Progress over a set: served members hold one thing, the others another -/

def progress {I : Type} [DecidableEq I] (E R : Finset I) (P Q : I → sProp 𝕄) : sProp 𝕄 := bigSep E fun t => if t ∈ R then P t else Q t

theorem progress_start {I : Type} [DecidableEq I] (E : Finset I) (P Q : I → sProp 𝕄) : progress E E P Q = bigSep E P :=
  bigSep_congr fun t ht => if_pos ht
theorem progress_end {I : Type} [DecidableEq I] (E : Finset I) (P Q : I → sProp 𝕄) : progress E ∅ P Q = bigSep E Q :=
  bigSep_congr fun t ht => if_neg (Finset.notMem_empty t)
/-- Serving one member. -/
theorem progress_step {I : Type} [DecidableEq I] {E R : Finset I} {t : I} (hE : t ∈ E) (hR : t ∈ R) (P Q : I → sProp 𝕄) :
    progress E R P Q ⊢ iprop(P t ∗ (Q t -∗ progress E (R.erase t) P Q)) := by
  unfold progress
  rw [take_eq hE, take_eq hE (fun t' => if t' ∈ R.erase t then P t' else Q t'), if_pos hR, if_neg (Finset.notMem_erase t R),
    bigSep_congr (Ψ := fun t' => if t' ∈ R.erase t then P t' else Q t') fun t' ht' => by
      simp only [Finset.mem_erase, (Finset.mem_erase.mp ht').1, ne_eq, not_false_eq_true, true_and]]
  iintro ⟨HP, H⟩
  isplitl [HP]; · iexact HP
  iintro HQ
  isplitl [HQ]; · iexact HQ
  iexact H

/-! ## What every device knows -/

variable (A : Dev nD → Vec F S512x512 .bf16)

set_option backward.proofsInPublic true in
/-- The transfer semaphores, numbered together. -/
abbrev scS (i : Fin 31) : SemLoc sig := .dma ⟨6 + i.val, by have := i.isLt; show 6 + i.val < 37; omega⟩
abbrev scC (c : Dev nD) (i : Fin 31) : GSem nD τ sig := ((c : Thread nD τ), scS i)

theorem rsS_sc (t : Fin 8) : SemLoc.dma (rsS t) = scS ⟨t.val, by omega⟩ := by revert t; decide
theorem rsR_sc (t : Fin 8) : SemLoc.dma (rsR t) = scS ⟨8 + t.val, by omega⟩ := by revert t; decide
theorem agS_sc (t : Fin 7) : SemLoc.dma (agS t) = scS ⟨16 + t.val, by omega⟩ := by revert t; decide
theorem agR_sc (t : Fin 8) : SemLoc.dma (agR t) = scS ⟨23 + t.val, by omega⟩ := by revert t; decide

def inv (g : GSem nD τ sig) : sProp 𝕄 := iprop(∃ κ, cellInv ER (sched A) κ g)
instance inv_persistent (g : GSem nD τ sig) : BI.Persistent (inv A g) := by unfold inv; infer_instance

def recs : sProp 𝕄 :=
  iprop(bigSep Finset.univ (fun c : Dev nD => inv A (barC c)) ∗ bigSep Finset.univ (fun ci : Dev nD × Fin 31 => inv A (scC ci.1 ci.2))
    ∗ bigSep Finset.univ (fun c : Dev nD => (reached ER (barC c) 0 : sProp 𝕄)) ∗ levAts L lv)
instance recs_persistent : BI.Persistent (recs A) := by unfold recs; infer_instance

/-- The same with the device's own transfer cells open. -/
def env (c : Dev nD) : sProp 𝕄 := iprop(recs A ∗ bigSep Finset.univ (fun i : Fin 31 => (reached ER (scC c i) 0 : sProp 𝕄)))
instance env_persistent (c : Dev nD) : BI.Persistent (env A c) := by unfold env; infer_instance

theorem recs_bar (c : Dev nD) : recs A ⊢ inv A (barC c) := by
  unfold recs; iintro ⟨#H, -⟩
  iapply (take_one (Finset.mem_univ c) (fun c : Dev nD => inv A (barC c))); iexact H
theorem recs_sc (c : Dev nD) (i : Fin 31) : recs A ⊢ inv A (scC c i) := by
  unfold recs; iintro ⟨-, #H, -⟩
  iapply (take_one (Finset.mem_univ (c, i)) (fun ci : Dev nD × Fin 31 => inv A (scC ci.1 ci.2))); iexact H
theorem recs_bar_reached (c : Dev nD) : recs A ⊢ (reached ER (barC c) 0 : sProp 𝕄) := by
  unfold recs; iintro ⟨-, -, #H, -⟩
  iapply (take_one (Finset.mem_univ c) (fun c : Dev nD => (reached ER (barC c) 0 : sProp 𝕄))); iexact H
theorem recs_lev : recs A ⊢ (levAts L lv : sProp 𝕄) := by
  unfold recs; iintro ⟨-, -, -, #H⟩; iexact H
theorem env_recs (c : Dev nD) : env A c ⊢ recs A := by unfold env; iintro ⟨#H, -⟩; iexact H
theorem env_reached (c : Dev nD) (i : Fin 31) : env A c ⊢ (reached ER (scC c i) 0 : sProp 𝕄) := by
  unfold env; iintro ⟨-, #H⟩
  iapply (take_one (Finset.mem_univ i) (fun i : Fin 31 => (reached ER (scC c i) 0 : sProp 𝕄))); iexact H

theorem env_bar (c t : Dev nD) : env A c ⊢ inv A (barC t) := (env_recs A c).trans (recs_bar A t)
theorem env_rsS (c t : Dev nD) (s : Fin 8) : env A c ⊢ inv A (rsSC t s) := by unfold rsSC; rw [rsS_sc]; exact (env_recs A c).trans (recs_sc A t _)
theorem env_rsR (c t : Dev nD) (s : Fin 8) : env A c ⊢ inv A (rsRC t s) := by unfold rsRC; rw [rsR_sc]; exact (env_recs A c).trans (recs_sc A t _)
theorem env_agS (c t : Dev nD) (s : Fin 7) : env A c ⊢ inv A (agSC t s) := by unfold agSC; rw [agS_sc]; exact (env_recs A c).trans (recs_sc A t _)
theorem env_agR (c t : Dev nD) (s : Fin 8) : env A c ⊢ inv A (agRC t s) := by unfold agRC; rw [agR_sc]; exact (env_recs A c).trans (recs_sc A t _)
theorem env_rsS_reached (c : Dev nD) (s : Fin 8) : env A c ⊢ (reached ER (rsSC c s) 0 : sProp 𝕄) := by unfold rsSC; rw [rsS_sc]; exact env_reached A c _
theorem env_rsR_reached (c : Dev nD) (s : Fin 8) : env A c ⊢ (reached ER (rsRC c s) 0 : sProp 𝕄) := by unfold rsRC; rw [rsR_sc]; exact env_reached A c _
theorem env_agS_reached (c : Dev nD) (s : Fin 7) : env A c ⊢ (reached ER (agSC c s) 0 : sProp 𝕄) := by unfold agSC; rw [agS_sc]; exact env_reached A c _
theorem env_agR_reached (c : Dev nD) (s : Fin 8) : env A c ⊢ (reached ER (agRC c s) 0 : sProp 𝕄) := by unfold agRC; rw [agR_sc]; exact env_reached A c _

/-- A device owing `O`, whatever it has waited for. -/
def owesX (c : Dev nD) (O : CellTallies nD τ sig Unit) : sProp 𝕄 := iprop(∃ W, owes (c : Thread nD τ) O W)

/-- A cell at the end of its duties. -/
def fin (g : GSem nD τ sig) : sProp 𝕄 := iprop(∃ R, ⌜∀ r, R ≤ r → (sched A).duties g r = ∅⌝ ∗ atPos ER g R ∅ 0)

abbrev others (c : Dev nD) : Finset (Fin 8) := Finset.univ.erase c

/-! ## The rules -/

section Rules

variable (c : Dev nD)

/-- What a device hands over with its signal to device `t`. -/
def sigRes (t : Fin 8) : sProp 𝕄 := iprop(dutyTok ER (barC t) 0 c ∗ (∃ f, rsP c t fullShare f) ∗ ∃ f, agP c t fullShare f)

def sigState (B : Finset (Fin 8)) : sProp 𝕄 :=
  iprop(owesX c (Orem c B (others c) (others c)) ∗ progress (others c) B (sigRes (F := F) c) (fun _ => iprop(emp)))

theorem wp_signal_to (n t : Dev nD) (hn : n = t) (B : Finset (Fin 8)) (htc : t ∈ others c) (ht : t ∈ B) {sem : Sem sig} (hsem : sem = barS) {a : ℕ} (ha : a = 1) {α : Type} {Q : α → sProp 𝕄} {k : PUnit → Prog (TpuEff nD τ sig (Elt F) Λ₀ .tc) α} :
    iprop(env A c ∗ sigState c B)
      ⊢ iprop((sigState c (B.erase t) -∗ wp frame (wpE (defs₀ (F := F)) 𝒱₀ c none) Set.univ (k ⟨⟩) Q)
          -∗ wp frame (wpE (defs₀ (F := F)) 𝒱₀ c none) Set.univ (.op (.semSignal (Dev.tc n) sem a) k) Q) := by
  subst hn hsem ha
  unfold sigState owesX
  iintro ⟨#HE, ⟨%W, HO⟩, Hp⟩ Hk
  ihave Hp2 := (progress_step htc ht _ _) $$ Hp
  unfold sigRes
  icases Hp2 with ⟨⟨Htok, Hrs, Hag⟩, Hback⟩
  ihave Hi := (env_bar A c n) $$ HE
  unfold inv
  icases Hi with ⟨%κ, #HI⟩
  ihave #Hr := (env_recs A c |>.trans (recs_bar_reached A n)) $$ HE
  ihave #Hr1 := (env_rsR_reached A c n) $$ HE
  ihave #Hr2 := (env_agR_reached A c n) $$ HE
  iapply (Rounds.wp_signal 𝒱₀ ER (sched A) (c : Thread nD τ) none (dst := (n : Thread nD τ)) (κ := κ) (r := 0) (d := c) (k' := 1)
      (by rw [duties_zero, role_bar]; exact Finset.mem_erase.mpr ⟨fun h => (Finset.mem_erase.mp htc).1 h.symm, Finset.mem_univ _⟩)
      (by rw [amount_at, role_bar]; rfl) () (Orem c (B.erase n) (others c) (others c)) (Orem_bar c B _ _ n ht)) $$ [HO Htok Hrs Hag]
  · isplitr; · iexact HI
    isplitl [HO]; · iexact HO
    isplitl [Htok]; · iexact Htok
    isplitl [Hrs Hag]
    · rw [payload_at, role_bar]; unfold payOf barPay
      isplitl [Hrs]; · iexact Hrs
      isplitl [Hag]; · iexact Hag
      isplitr; · iexact Hr1
      iexact Hr2
    · iexact Hr
  iintro HO
  iapply Hk
  isplitl [HO]; · iexists W; iexact HO
  iapply Hback; iempintro

/-- The wait for the seven signals. -/
theorem wp_wait_bar {sem : Sem sig} (hsem : sem = barS) {a : ℕ} (ha : a = 7) {α : Type} {Q : α → sProp 𝕄} {k : PUnit → Prog (TpuEff nD τ sig (Elt F) Λ₀ .tc) α} :
    iprop(env A c ∗ cred (tallyAt (barC c) () 7) ∗ atPos ER (barC c) 0 ∅ 0 ∗ owesX c (Orem c ∅ (others c) (others c)))
      ⊢ iprop(((owesX c (Orem c ∅ (others c) (others c)) ∗ fin A (barC c) ∗ bigSep (others c) (fun d => barPay c d))
            -∗ wp frame (wpE (defs₀ (F := F)) 𝒱₀ c none) Set.univ (k ⟨⟩) Q)
          -∗ wp frame (wpE (defs₀ (F := F)) 𝒱₀ c none) Set.univ (.op (.semWait sem a) k) Q) := by
  subst hsem ha
  unfold owesX
  iintro ⟨#HE, Hc, Hat, ⟨%W, HO⟩⟩ Hk
  ihave Hi := (env_bar A c c) $$ HE
  unfold inv
  icases Hi with ⟨%κ, #HI⟩
  iapply (Rounds.wp_wait_rest_token 𝒱₀ ER (sched A) (c : Thread nD τ) none (κ := κ)
      (wpE_semWait_eq 𝒱₀ (c : Thread nD τ) none Set.univ) (Set.mem_univ _) () (W := W) (R := 0) (m := 0) (T := ∅)
      (by rw [expect_bar])) $$ [Hc HO Hat]
  · isplitr; · iexact HI
    isplitl [Hc]; · iexact Hc
    isplitl [HO]; · iexact HO
    isplitr
    · iapply ((recs_lev A).trans (mayWait_of c (.reg barS) ∅ (others c) (others c) (fun h => absurd h Finset.not_nonempty_empty)
        (fun _ => by rw [role_bar]; decide) (fun _ => by rw [role_bar]; decide)))
      iapply (env_recs A c); iexact HE
    iexact Hat
  iintro ⟨HO, Hat, -, Hpay⟩
  iapply Hk
  isplitl [HO]; · iexists _; iexact HO
  isplitl [Hat]
  · unfold fin; iexists (0 + 1)
    isplitr; · ipureintro; exact duties_later A _
    iexact Hat
  iapply (Entails.of_eq (rest_bar A c)); iexact Hpay

/-- A wait on one of the transfer semaphores whose cell has one duty. -/
theorem wp_wait_one (q : DmaSem sig) (B R G : Finset (Fin 8)) (hd : dutyOf c (role (.dma q)) = {0}) (hm : amountOf (role (.dma q)) = N)
    (hI : env A c ⊢ inv A ((c : Thread nD τ), .dma q))
    (hB : B.Nonempty → lvRole (role (.dma q)) < 1) (hR : R.Nonempty → lvRole (role (.dma q)) < 2) (hG : G.Nonempty → lvRole (role (.dma q)) < 3)
    {src dst : Memref sig .tc .vmem S64x512 .bf16} {hsrc : src.view.WordExact} {hdst : dst.view.WordExact} (hN : dst.view.dmaCredit = N) {α : Type} {Q : α → sProp 𝕄} {k : PUnit → Prog (TpuEff nD τ sig (Elt F) Λ₀ .tc) α} :
    iprop(env A c ∗ cred (tallyAt ((c : Thread nD τ), SemLoc.dma q) () N) ∗ atPos ER ((c : Thread nD τ), .dma q) 0 ∅ 0 ∗ owesX c (Orem c B R G))
      ⊢ iprop(((owesX c (Orem c B R G) ∗ fin A ((c : Thread nD τ), .dma q) ∗ payOf A c 0 (role (.dma q)))
            -∗ wp frame (wpE (defs₀ (F := F)) 𝒱₀ c none) Set.univ (k ⟨⟩) Q)
          -∗ wp frame (wpE (defs₀ (F := F)) 𝒱₀ c none) Set.univ (.op (.waitDma2 q src dst hsrc hdst) k) Q) := by
  unfold owesX
  iintro ⟨#HE, Hc, Hat, ⟨%W, HO⟩⟩ Hk
  ihave Hi := hI $$ HE
  unfold inv
  icases Hi with ⟨%κ, #HI⟩
  iapply (Rounds.wp_wait_rest_token 𝒱₀ ER (sched A) (c : Thread nD τ) none (κ := κ)
      (wpE_waitDma2_eq 𝒱₀ (c : Thread nD τ) none Set.univ) (Set.mem_univ _) () (W := W) (R := 0) (m := 0) (T := ∅)
      (by rw [Nat.zero_add, hN, expect_one A c _ hd hm])) $$ [Hc HO Hat]
  · isplitr; · iexact HI
    isplitl [Hc]; · rw [hN]; iexact Hc
    isplitl [HO]; · iexact HO
    isplitr
    · iapply ((recs_lev A).trans (mayWait_of c (.dma q) B R G hB hR hG))
      iapply (env_recs A c); iexact HE
    iexact Hat
  iintro ⟨HO, Hat, -, Hpay⟩
  iapply Hk
  isplitl [HO]; · iexists _; iexact HO
  isplitl [Hat]
  · unfold fin; iexists (0 + 1)
    isplitr; · ipureintro; exact duties_later A _
    iexact Hat
  iapply (Entails.of_eq (rest_one A c _ hd)); iexact Hpay

/-- A copy whose two cells have one duty each. -/
theorem wp_copy (n : Dev nD) (a b : DmaSem sig) (O₁ O₂ : CellTallies nD τ sig Unit) (hO : O₁ = O₂ + tallyAt ((n : Thread nD τ), SemLoc.dma b) () N)
    (hda : dutyOf c (role (.dma a)) = {0}) (hma : amountOf (role (.dma a)) = N) (hdb : dutyOf n (role (.dma b)) = {0}) (hmb : amountOf (role (.dma b)) = N)
    (hIa : env A c ⊢ inv A ((c : Thread nD τ), .dma a)) (hIb : env A c ⊢ inv A ((n : Thread nD τ), .dma b))
    (hra : env A c ⊢ (reached ER ((c : Thread nD τ), .dma a) 0 : sProp 𝕄))
    {src : Memref sig .tc .vmem S64x512 .bf16} {dst : Memref sig (Dev.tc n : Thread nD τ).2.kind .vmem S64x512 .bf16} {hsc : dst.view.ref.isScScratch = false}
    {hsrc : src.view.WordExact} {hdst : dst.view.WordExact} {hsem : DmaTarget.Typed .vmem (.dma b) (.remote (Dev.tc n : Thread nD τ) dst (.dma a) hsc)}
    (hN : dst.view.dmaCredit = N) {q : PosShare TreeShare} (fs : Buf (Elt F) (src.view.loc (c : Thread nD τ))) (fd : Buf (Elt F) (dst.view.loc (n : Thread nD τ)))
    (hpa : (src.view.loc (c : Thread nD τ) ↦[src.view.set]{q} fs) ⊢ payOf A c 0 (role (.dma a)))
    (hpb : (dst.view.loc (n : Thread nD τ) ↦[dst.view.set]{fullShare} (dst.view.write (Elt F) fd (src.view.read (Elt F) fs) Finset.univ)) ⊢ payOf A n 0 (role (.dma b)))
    {α : Type} {Q : α → sProp 𝕄} {k : PUnit → Prog (TpuEff nD τ sig (Elt F) Λ₀ .tc) α} :
    iprop(env A c ∗ (src.view.loc (c : Thread nD τ) ↦[src.view.set]{q} fs) ∗ (dst.view.loc (n : Thread nD τ) ↦[dst.view.set]{fullShare} fd) ∗ owesX c O₁
        ∗ dutyTok ER ((c : Thread nD τ), .dma a) 0 0 ∗ dutyTok ER ((n : Thread nD τ), .dma b) 0 0 ∗ reached ER ((n : Thread nD τ), .dma b) 0)
      ⊢ iprop(((cred (tallyAt ((c : Thread nD τ), SemLoc.dma a) () N) ∗ owesX c O₂)
            -∗ wp frame (wpE (defs₀ (F := F)) 𝒱₀ c none) Set.univ (k ⟨⟩) Q)
          -∗ wp frame (wpE (defs₀ (F := F)) 𝒱₀ c none) Set.univ
              (.op (.enqueueDma src (.remote (Dev.tc n : Thread nD τ) dst (.dma a) hsc) (.dma b) hsrc hdst hsem) k) Q) := by
  unfold owesX
  iintro ⟨#HE, Hsrc, Hdst, ⟨%W, HO⟩, Hta, Htb, #Hrb⟩ Hk
  ihave Hi := hIa $$ HE
  ihave Hj := hIb $$ HE
  unfold inv
  icases Hi with ⟨%κ₁, #HI⟩
  icases Hj with ⟨%κ₂, #HJ⟩
  ihave #Hra := hra $$ HE
  iapply (Rounds.wp_send_pointsTo 𝒱₀ ER (sched A) (c : Thread nD τ) none (κ₁ := κ₁) (κ₂ := κ₂) (sS := .dma a) (sem := .dma b) (r₁ := 0) (r₂ := 0) (d₁ := 0) (d₂ := 0) (fd := fd)
      (by rw [duties_zero, hda]; exact Finset.mem_singleton_self _) (by rw [duties_zero, hdb]; exact Finset.mem_singleton_self _)
      () () N hN hma hmb O₂ hO (W := W) hpa hpb) $$ [Hsrc Hdst HO Hta Htb]
  · isplitr; · iexact HI
    isplitr; · iexact HJ
    isplitl [Hsrc]; · iexact Hsrc
    isplitl [Hdst]; · iexact Hdst
    isplitl [HO]; · iexact HO
    isplitl [Hta]; · iexact Hta
    isplitr; · iexact Hra
    isplitl [Htb]; · iexact Htb
    iexact Hrb
  iintro ⟨Hc, HO⟩
  iapply Hk
  isplitl [Hc]; · iexact Hc
  iexists W; iexact HO

theorem duty_rsS {t : Fin 8} (h : t ∈ others c) : dutyOf c (role (.dma (rsS t))) = {0} := by
  rw [role_rsS]; exact if_neg (Finset.mem_erase.mp h).1
theorem duty_rsR {t : Fin 8} (h : t ∈ others c) : dutyOf c (role (.dma (rsR t))) = {0} := by
  rw [role_rsR]; exact if_neg (Finset.mem_erase.mp h).1
theorem duty_agS (j : Fin 7) : dutyOf c (role (.dma (agS j))) = {0} := by rw [role_agS]; rfl
theorem duty_agR {t : Fin 8} (h : t ∈ others c) : dutyOf c (role (.dma (agR t))) = {0} := by
  rw [role_agR]; exact if_neg (Finset.mem_erase.mp h).1
theorem others_symm {c t : Fin 8} (h : t ∈ others c) : c ∈ others t :=
  Finset.mem_erase.mpr ⟨fun e => (Finset.mem_erase.mp h).1 e.symm, Finset.mem_univ _⟩

/-! ### The segments of the partial product -/

def rsTodo (t : Fin 8) : sProp 𝕄 :=
  iprop(dutyTok ER (rsSC c t) 0 0 ∗ dutyTok ER (rsRC t c) 0 0 ∗ (∃ f, rsP t c fullShare f) ∗ reached ER (rsRC t c) 0)
def rsDone (t : Fin 8) : sProp 𝕄 := cred (tallyAt (rsSC c t) () N)
def rsState (R : Finset (Fin 8)) : sProp 𝕄 :=
  iprop(owesX c (Orem c ∅ R (others c)) ∗ progress (others c) R (rsTodo (F := F) c) (rsDone c))
/-- A device's own segment stays with it. -/
def keep (t : Fin 8) : sProp 𝕄 := if t = c then sndP c t fullShare (A c) else iprop(emp)

theorem wp_rs_copy (t : Fin 8) (hE : t ∈ others c) (R : Finset (Fin 8)) (ht : t ∈ R)
    {n : Dev nD} (hn : n = t) {a b : DmaSem sig} (ha : a = rsS t) (hb : b = rsR c)
    {src dst : Memref sig .tc .vmem S64x512 .bf16} (hs : src = segM sndM t) (hdt : dst = segM rsM c)
    {hsc : dst.view.ref.isScScratch = false} {hsrc : src.view.WordExact} {hdst : dst.view.WordExact}
    {hsem : DmaTarget.Typed .vmem (.dma b) (.remote (Dev.tc n : Thread nD τ) dst (.dma a) hsc)}
    {α : Type} {Q : α → sProp 𝕄} {k : PUnit → Prog (TpuEff nD τ sig (Elt F) Λ₀ .tc) α} :
    iprop(env A c ∗ rsState c R ∗ sndP c t fullShare (A c))
      ⊢ iprop((rsState c (R.erase t) -∗ wp frame (wpE (defs₀ (F := F)) 𝒱₀ c none) Set.univ (k ⟨⟩) Q)
          -∗ wp frame (wpE (defs₀ (F := F)) 𝒱₀ c none) Set.univ
              (.op (.enqueueDma src (.remote (Dev.tc n : Thread nD τ) dst (.dma a) hsc) (.dma b) hsrc hdst hsem) k) Q) := by
  subst hn ha hb hs hdt
  unfold rsState
  iintro ⟨#HE, ⟨HO, Hp⟩, Hsrc⟩ Hk
  ihave Hp2 := (progress_step hE ht _ _) $$ Hp
  unfold rsTodo
  icases Hp2 with ⟨⟨Hta, Htb, ⟨%fd, Hdst⟩, Hr⟩, Hback⟩
  unfold sndP
  iapply (wp_copy A c n (rsS n) (rsR c) (Orem c ∅ R (others c)) (Orem c ∅ (R.erase n) (others c)) (Orem_rs c _ R _ n ht)
    (duty_rsS c hE) (by rw [role_rsS]; rfl) (duty_rsR n (others_symm hE)) (by rw [role_rsR]; rfl) (env_rsS A c c n) (env_rsR A c n c)
    (env_rsS_reached A c n) (N_rs c) (A c) fd (by rw [role_rsS]; unfold payOf sndP; exact BI.Entails.refl _)
    (by rw [role_rsR]; unfold payOf
        refine Entails.of_eq (show rsP n c fullShare _ = _ from rsP_congr n c fullShare fun j => ?_)
        rw [rsC_emb]
        exact (View.write_emb_of_mem (v := (segM rsM c).view) _ _ (Finset.mem_univ j)).trans rfl)) $$ [Hsrc HO Hta Htb Hdst Hr]
  · isplitr; · iexact HE
    isplitl [Hsrc]; · iexact Hsrc
    isplitl [Hdst]; · unfold rsP; iexact Hdst
    isplitl [HO]; · iexact HO
    isplitl [Hta]; · iexact Hta
    isplitl [Htb]; · iexact Htb
    iexact Hr
  iintro ⟨Hc, HO⟩
  iapply Hk
  isplitl [HO]; · iexact HO
  iapply Hback; unfold rsDone; iexact Hc

/-- Segment `t` goes to device `t`, unless that is the device itself. -/
theorem wp_rs_send (t : Fin 8) (R : Finset (Fin 8)) (ht : t ∈ R ↔ c ≠ t) {P : Prop} [Decidable P] (hP : P ↔ c ≠ t)
    {n : P → Dev nD} (hn : ∀ h, n h = t) {a b : P → DmaSem sig} (ha : ∀ h, a h = rsS t) (hb : ∀ h, b h = rsR c)
    {src dst : P → Memref sig .tc .vmem S64x512 .bf16} (hs : ∀ h, src h = segM sndM t) (hdt : ∀ h, dst h = segM rsM c)
    {hsc : ∀ h, (dst h).view.ref.isScScratch = false}
    {hsrc : ∀ h, (src h).view.WordExact} {hdst : ∀ h, (dst h).view.WordExact}
    {hsem : ∀ h, DmaTarget.Typed .vmem (.dma (b h)) (.remote (Dev.tc (n h) : Thread nD τ) (dst h) (.dma (a h)) (hsc h))}
    {α : Type} {Q : α → sProp 𝕄} {k : Prog (TpuEff nD τ sig (Elt F) Λ₀ .tc) α} :
    iprop(env A c ∗ rsState c R ∗ sndP c t fullShare (A c))
      ⊢ iprop(((rsState c (R.erase t) ∗ keep A c t) -∗ wp frame (wpE (defs₀ (F := F)) 𝒱₀ c none) Set.univ k Q)
          -∗ wp frame (wpE (defs₀ (F := F)) 𝒱₀ c none) Set.univ
              (if h : P then .op (.enqueueDma (src h) (.remote (Dev.tc (n h) : Thread nD τ) (dst h) (.dma (a h)) (hsc h)) (.dma (b h)) (hsrc h) (hdst h) (hsem h)) (fun _ => k)
                else k) Q) := by
  by_cases h : P
  · rw [dif_pos h]
    have hc := hP.mp h
    iintro H Hk
    iapply (wp_rs_copy A c t (Finset.mem_erase.mpr ⟨hc.symm, Finset.mem_univ _⟩) R (ht.mpr hc) (hn h) (ha h) (hb h) (hs h) (hdt h)) $$ H
    iintro H
    iapply Hk
    isplitl [H]; · iexact H
    unfold keep; rw [if_neg hc.symm]; iempintro
  · rw [dif_neg h]
    have hc : c = t := by by_contra hc; exact h (hP.mpr hc)
    rw [Finset.erase_eq_of_notMem fun h' => ht.mp h' hc]
    iintro ⟨-, H, Hsrc⟩ Hk
    iapply Hk
    isplitl [H]; · iexact H
    unfold keep; rw [if_pos hc.symm]; iexact Hsrc

/-- Waiting for the segments of the others. -/
def rsWaitState (R : Finset (Fin 8)) : sProp 𝕄 :=
  iprop(owesX c (Orem c ∅ ∅ (others c))
    ∗ progress (others c) R (fun s => iprop(cred (tallyAt (rsRC c s) () N) ∗ atPos ER (rsRC c s) 0 ∅ 0)) (fun s => iprop(fin A (rsRC c s) ∗ rsP c s fullShare (rsC A c))))

theorem wp_rs_wait (s : Fin 8) (hE : s ∈ others c) (R : Finset (Fin 8)) (hs : s ∈ R) {q : DmaSem sig} (hq : q = rsR s)
    {src dst : Memref sig .tc .vmem S64x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(env A c ∗ rsWaitState A c R)
      ⊢ iprop((rsWaitState A c (R.erase s) -∗ wp frame (wpE (defs₀ (F := F)) 𝒱₀ c none) Set.univ (k ⟨⟩) Q)
          -∗ wp frame (wpE (defs₀ (F := F)) 𝒱₀ c none) Set.univ (.op (.waitDma2 q src dst hsrc hdst) k) Q) := by
  subst hq
  unfold rsWaitState
  iintro ⟨#HE, HO, Hp⟩ Hk
  ihave Hp2 := (progress_step hE hs _ _) $$ Hp
  icases Hp2 with ⟨⟨Hc, Hat⟩, Hback⟩
  iapply (wp_wait_one A c (rsR s) ∅ ∅ (others c) (duty_rsR c hE) (by rw [role_rsR]; rfl) (env_rsR A c c s)
    (fun h => absurd h Finset.not_nonempty_empty) (fun h => absurd h Finset.not_nonempty_empty) (fun _ => by rw [role_rsR]; exact (by decide : 2 < 3)) hN) $$ [Hc Hat HO]
  · isplitr; · iexact HE
    isplitl [Hc]; · iexact Hc
    isplitl [Hat]; · iexact Hat
    iexact HO
  rw [role_rsR]
  iintro ⟨HO, Hf, Hpay⟩
  iapply Hk
  isplitl [HO]; · iexact HO
  iapply Hback
  isplitl [Hf]; · iexact Hf
  unfold payOf; iexact Hpay

/-- Waiting until the copies of the segments have read them. -/
def rsBackState (R : Finset (Fin 8)) : sProp 𝕄 :=
  iprop(owesX c (Orem c ∅ ∅ ∅)
    ∗ progress (others c) R (fun t => iprop(rsDone c t ∗ atPos ER (rsSC c t) 0 ∅ 0)) (fun t => iprop(fin A (rsSC c t) ∗ sndP c t fullShare (A c))))

theorem wp_rs_back_one (t : Fin 8) (hE : t ∈ others c) (R : Finset (Fin 8)) (ht : t ∈ R) {q : DmaSem sig} (hq : q = rsS t)
    {src dst : Memref sig .tc .vmem S64x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(env A c ∗ rsBackState A c R)
      ⊢ iprop((rsBackState A c (R.erase t) -∗ wp frame (wpE (defs₀ (F := F)) 𝒱₀ c none) Set.univ (k ⟨⟩) Q)
          -∗ wp frame (wpE (defs₀ (F := F)) 𝒱₀ c none) Set.univ (.op (.waitDma2 q src dst hsrc hdst) k) Q) := by
  subst hq
  unfold rsBackState rsDone
  iintro ⟨#HE, HO, Hp⟩ Hk
  ihave Hp2 := (progress_step hE ht _ _) $$ Hp
  icases Hp2 with ⟨⟨Hc, Hat⟩, Hback⟩
  iapply (wp_wait_one A c (rsS t) ∅ ∅ ∅ (duty_rsS c hE) (by rw [role_rsS]; rfl) (env_rsS A c c t)
    (fun h => absurd h Finset.not_nonempty_empty) (fun h => absurd h Finset.not_nonempty_empty) (fun h => absurd h Finset.not_nonempty_empty) hN) $$ [Hc Hat HO]
  · isplitr; · iexact HE
    isplitl [Hc]; · iexact Hc
    isplitl [Hat]; · iexact Hat
    iexact HO
  rw [role_rsS]
  iintro ⟨HO, Hf, Hpay⟩
  iapply Hk
  isplitl [HO]; · iexact HO
  iapply Hback
  isplitl [Hf]; · iexact Hf
  unfold payOf; iexact Hpay

theorem wp_rs_back (t : Fin 8) (R : Finset (Fin 8)) (ht : t ∈ R ↔ c ≠ t) {P : Prop} [Decidable P] (hP : P ↔ c ≠ t)
    {q : P → DmaSem sig} (hq : ∀ h, q h = rsS t)
    {src dst : P → Memref sig .tc .vmem S64x512 .bf16} {hsrc : ∀ h, (src h).view.WordExact} {hdst : ∀ h, (dst h).view.WordExact}
    (hN : ∀ h, (dst h).view.dmaCredit = N)
    {α : Type} {Q : α → sProp 𝕄} {k : Prog (TpuEff nD τ sig (Elt F) Λ₀ .tc) α} :
    iprop(env A c ∗ rsBackState A c R)
      ⊢ iprop((rsBackState A c (R.erase t) -∗ wp frame (wpE (defs₀ (F := F)) 𝒱₀ c none) Set.univ k Q)
          -∗ wp frame (wpE (defs₀ (F := F)) 𝒱₀ c none) Set.univ
              (if h : P then .op (.waitDma2 (q h) (src h) (dst h) (hsrc h) (hdst h)) (fun _ => k) else k) Q) := by
  by_cases h : P
  · rw [dif_pos h]
    have hc := hP.mp h
    iintro H Hk
    iapply (wp_rs_back_one A c t (Finset.mem_erase.mpr ⟨hc.symm, Finset.mem_univ _⟩) R (ht.mpr hc) (hq h) (hN h)) $$ H
    iexact Hk
  · rw [dif_neg h]
    have hc : c = t := by by_contra hc; exact h (hP.mpr hc)
    rw [Finset.erase_eq_of_notMem fun h' => ht.mp h' hc]
    iintro ⟨-, H⟩ Hk
    iapply Hk; iexact H

/-! ### The summed segments -/

def agTodo (t : Fin 8) : sProp 𝕄 := iprop(dutyTok ER (agRC t c) 0 0 ∗ (∃ f, agP t c fullShare f) ∗ reached ER (agRC t c) 0)
def agPiece (j : Fin 7) : sProp 𝕄 := iprop(dutyTok ER (agSC c j) 0 0 ∗ agP c c (leaf8 j.succ) (agC A))
def agDone (j : Fin 7) : sProp 𝕄 := cred (tallyAt (agSC c j) () N)
/-- The devices `G` are still to be sent the sum, by the copies `J`. -/
def agState (G : Finset (Fin 8)) (J : Finset (Fin 7)) : sProp 𝕄 :=
  iprop(owesX c (Orem c ∅ ∅ G) ∗ progress (others c) G (agTodo (F := F) c) (fun _ => iprop(emp)) ∗ progress Finset.univ J (agPiece A c) (agDone c))

theorem wp_ag_copy (t : Fin 8) (j : Fin 7) (hE : t ∈ others c) (G : Finset (Fin 8)) (ht : t ∈ G) (J : Finset (Fin 7)) (hj : j ∈ J)
    {n : Dev nD} (hn : n = t) {a b : DmaSem sig} (ha : a = agS j) (hb : b = agR c)
    {src dst : Memref sig .tc .vmem S64x512 .bf16} (hs : src = segM agM c) (hdt : dst = segM agM c)
    {hsc : dst.view.ref.isScScratch = false} {hsrc : src.view.WordExact} {hdst : dst.view.WordExact}
    {hsem : DmaTarget.Typed .vmem (.dma b) (.remote (Dev.tc n : Thread nD τ) dst (.dma a) hsc)}
    {α : Type} {Q : α → sProp 𝕄} {k : PUnit → Prog (TpuEff nD τ sig (Elt F) Λ₀ .tc) α} :
    iprop(env A c ∗ agState A c G J)
      ⊢ iprop((agState A c (G.erase t) (J.erase j) -∗ wp frame (wpE (defs₀ (F := F)) 𝒱₀ c none) Set.univ (k ⟨⟩) Q)
          -∗ wp frame (wpE (defs₀ (F := F)) 𝒱₀ c none) Set.univ
              (.op (.enqueueDma src (.remote (Dev.tc n : Thread nD τ) dst (.dma a) hsc) (.dma b) hsrc hdst hsem) k) Q) := by
  subst hn ha hb hs hdt
  unfold agState
  iintro ⟨#HE, HO, Hp, Hj⟩ Hk
  ihave Hp2 := (progress_step hE ht _ _) $$ Hp
  ihave Hj2 := (progress_step (Finset.mem_univ j) hj _ _) $$ Hj
  unfold agTodo agPiece
  icases Hp2 with ⟨⟨Htb, ⟨%fd, Hdst⟩, Hr⟩, Hback⟩
  icases Hj2 with ⟨⟨Hta, Hsrc⟩, Hback2⟩
  iapply (wp_copy A c n (agS j) (agR c) (Orem c ∅ ∅ G) (Orem c ∅ ∅ (G.erase n)) (Orem_ag c _ _ G n ht)
    (duty_agS c j) (by rw [role_agS]; rfl) (duty_agR n (others_symm hE)) (by rw [role_agR]; rfl) (env_agS A c c j) (env_agR A c n c)
    (env_agS_reached A c j) (N_ag c) (agC A) fd (q := leaf8 j.succ) (by rw [role_agS]; unfold payOf agP; exact BI.Entails.refl _)
    (by rw [role_agR]; unfold payOf
        refine Entails.of_eq (show agP n c fullShare _ = _ from agP_congr n c fullShare fun j => ?_)
        exact (View.write_emb_of_mem (v := (segM agM c).view) _ _ (Finset.mem_univ j)).trans rfl)) $$ [Hsrc HO Hta Htb Hdst Hr]
  · isplitr; · iexact HE
    isplitl [Hsrc]; · unfold agP; iexact Hsrc
    isplitl [Hdst]; · unfold agP; iexact Hdst
    isplitl [HO]; · iexact HO
    isplitl [Hta]; · iexact Hta
    isplitl [Htb]; · iexact Htb
    iexact Hr
  iintro ⟨Hc, HO⟩
  iapply Hk
  isplitl [HO]; · iexact HO
  isplitl [Hback]; · iapply Hback; iempintro
  iapply Hback2; unfold agDone; iexact Hc

/-- Waiting for the sums of the others. -/
def agWaitState (R : Finset (Fin 8)) : sProp 𝕄 :=
  iprop(owesX c (Orem c ∅ ∅ ∅)
    ∗ progress (others c) R (fun s => iprop(cred (tallyAt (agRC c s) () N) ∗ atPos ER (agRC c s) 0 ∅ 0)) (fun s => iprop(fin A (agRC c s) ∗ agP c s fullShare (agC A))))

theorem wp_ag_wait (s : Fin 8) (hE : s ∈ others c) (R : Finset (Fin 8)) (hs : s ∈ R) {q : DmaSem sig} (hq : q = agR s)
    {src dst : Memref sig .tc .vmem S64x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(env A c ∗ agWaitState A c R)
      ⊢ iprop((agWaitState A c (R.erase s) -∗ wp frame (wpE (defs₀ (F := F)) 𝒱₀ c none) Set.univ (k ⟨⟩) Q)
          -∗ wp frame (wpE (defs₀ (F := F)) 𝒱₀ c none) Set.univ (.op (.waitDma2 q src dst hsrc hdst) k) Q) := by
  subst hq
  unfold agWaitState
  iintro ⟨#HE, HO, Hp⟩ Hk
  ihave Hp2 := (progress_step hE hs _ _) $$ Hp
  icases Hp2 with ⟨⟨Hc, Hat⟩, Hback⟩
  iapply (wp_wait_one A c (agR s) ∅ ∅ ∅ (duty_agR c hE) (by rw [role_agR]; rfl) (env_agR A c c s)
    (fun h => absurd h Finset.not_nonempty_empty) (fun h => absurd h Finset.not_nonempty_empty) (fun h => absurd h Finset.not_nonempty_empty) hN) $$ [Hc Hat HO]
  · isplitr; · iexact HE
    isplitl [Hc]; · iexact Hc
    isplitl [Hat]; · iexact Hat
    iexact HO
  rw [role_agR]
  iintro ⟨HO, Hf, Hpay⟩
  iapply Hk
  isplitl [HO]; · iexact HO
  iapply Hback
  isplitl [Hf]; · iexact Hf
  unfold payOf; iexact Hpay

/-- Waiting until the copies of the sum have read it. -/
def agBackState (J : Finset (Fin 7)) : sProp 𝕄 :=
  iprop(owesX c (Orem c ∅ ∅ ∅)
    ∗ progress Finset.univ J (fun j => iprop(agDone c j ∗ atPos ER (agSC c j) 0 ∅ 0)) (fun j => iprop(fin A (agSC c j) ∗ agP c c (leaf8 j.succ) (agC A))))

theorem wp_ag_back (j : Fin 7) (J : Finset (Fin 7)) (hj : j ∈ J) {q : DmaSem sig} (hq : q = agS j)
    {src dst : Memref sig .tc .vmem S64x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(env A c ∗ agBackState A c J)
      ⊢ iprop((agBackState A c (J.erase j) -∗ wp frame (wpE (defs₀ (F := F)) 𝒱₀ c none) Set.univ (k ⟨⟩) Q)
          -∗ wp frame (wpE (defs₀ (F := F)) 𝒱₀ c none) Set.univ (.op (.waitDma2 q src dst hsrc hdst) k) Q) := by
  subst hq
  unfold agBackState agDone
  iintro ⟨#HE, HO, Hp⟩ Hk
  ihave Hp2 := (progress_step (Finset.mem_univ j) hj _ _) $$ Hp
  icases Hp2 with ⟨⟨Hc, Hat⟩, Hback⟩
  iapply (wp_wait_one A c (agS j) ∅ ∅ ∅ (duty_agS c j) (by rw [role_agS]; rfl) (env_agS A c c j)
    (fun h => absurd h Finset.not_nonempty_empty) (fun h => absurd h Finset.not_nonempty_empty) (fun h => absurd h Finset.not_nonempty_empty) hN) $$ [Hc Hat HO]
  · isplitr; · iexact HE
    isplitl [Hc]; · iexact Hc
    isplitl [Hat]; · iexact Hat
    iexact HO
  rw [role_agS]
  iintro ⟨HO, Hf, Hpay⟩
  iapply Hk
  isplitl [HO]; · iexact HO
  iapply Hback
  isplitl [Hf]; · iexact Hf
  unfold payOf; iexact Hpay

end Rules

end Cert.KernelIdeal.Exchange
-- ==== Proof.Facts.lean ====
/-
What each device computes by itself, the places the kernel's index words name, and the rules of `Steps` along the order
in which a device addresses the others.
-/
module

public import proofs.«01_k».proof.Proof.Steps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The contents -/

/-- What the kernel is given on one device. -/
structure Inp (F : FTy → Type) [FloatOps F] where
  x : Vec F S2x256x512 .bf16
  wq : Vec F S512x256 .bf16
  k : Vec F S2x256x4x64 .bf16
  v : Vec F S2x256x4x64 .bf16
  wo : Vec F S256x512 .bf16

/-- One batch and head of a key or value array. -/
def cut {off : Fin 4 → Nat} (inb : ∀ a, off a + S1x256x1x64.size a ≤ S2x256x4x64.size a) (f : Vec F S2x256x4x64 .bf16) : Vec F S1x256x1x64 .bf16 :=
  fun i => f ((Rect.unit (s := S2x256x4x64) off S1x256x1x64.size inb).emb i)

namespace Inp

variable (I : Inp F)

def woB : FVec F S256x512 .bf16 := k0_pay1 I.wo
def q : FVec F S2x256x4x64 .bf16 := k0_pay2 I.x I.wq
def mask : IVec S256x256 1 := k0_pay6 k0_pay3 k0_pay4 k0_pay5 0#32
def e00 : FVec F S256x256 .f32 := k0_pay7 I.q k0_pay3 k0_pay4 k0_pay5 0#32 (cut inb_S2x256x4x64_S1x256x1x64_0_0_0_0 I.k)
def s00 : FVec F S256x256 .f32 := k0_pay8 I.q k0_pay3 k0_pay4 k0_pay5 0#32 (cut inb_S2x256x4x64_S1x256x1x64_0_0_0_0 I.k)
def c00 : FVec F S256x64 .f32 := k0_pay9 I.e00 I.s00 (cut inb_S2x256x4x64_S1x256x1x64_0_0_0_0 I.v)
def c01 : FVec F S256x64 .f32 := k0_pay10 I.q mask (cut inb_S2x256x4x64_S1x256x1x64_0_0_1_0 I.k) (cut inb_S2x256x4x64_S1x256x1x64_0_0_1_0 I.v)
def q02 : FVec F S256x64 .bf16 := k0_pay11 I.q
def k02 : FVec F S256x64 .bf16 := k0_pay12 (cut inb_S2x256x4x64_S1x256x1x64_0_0_2_0 I.k)
def c02 : FVec F S256x64 .f32 := k0_pay13 mask I.q02 I.k02 (cut inb_S2x256x4x64_S1x256x1x64_0_0_2_0 I.v)
def p03 : FVec F S256x256 .bf16 := k0_pay14 I.q mask (cut inb_S2x256x4x64_S1x256x1x64_0_0_3_0 I.k)
/-- The first batch's rows of the partial product. -/
def low : FVec F S256x512 .bf16 := k0_pay15 I.woB I.c00 I.c01 I.c02 I.p03 (cut inb_S2x256x4x64_S1x256x1x64_0_0_3_0 I.v)
def q10 : FVec F S256x64 .bf16 := k0_pay16 I.q
def c10 : FVec F S256x64 .f32 := k0_pay17 mask I.q10 (cut inb_S2x256x4x64_S1x256x1x64_1_0_0_0 I.k) (cut inb_S2x256x4x64_S1x256x1x64_1_0_0_0 I.v)
def p11 : FVec F S256x256 .bf16 := k0_pay18 I.q mask (cut inb_S2x256x4x64_S1x256x1x64_1_0_1_0 I.k)
def c11 : FVec F S256x64 .f32 := k0_pay19 I.p11 (cut inb_S2x256x4x64_S1x256x1x64_1_0_1_0 I.v)
def c12 : FVec F S256x64 .f32 := k0_pay20 I.q mask (cut inb_S2x256x4x64_S1x256x1x64_1_0_2_0 I.k) (cut inb_S2x256x4x64_S1x256x1x64_1_0_2_0 I.v)
def e13 : FVec F S256x256 .f32 := k0_pay21 I.q mask (cut inb_S2x256x4x64_S1x256x1x64_1_0_3_0 I.k)
def s13 : FVec F S256 .f32 := k0_pay22 I.q mask (cut inb_S2x256x4x64_S1x256x1x64_1_0_3_0 I.k)
/-- The second batch's rows. -/
def high : FVec F S256x512 .bf16 := k0_pay23 I.woB I.c10 I.c11 I.c12 I.e13 I.s13 (cut inb_S2x256x4x64_S1x256x1x64_1_0_3_0 I.v)

end Inp

def halfOf (i : S512x512.Idx) : Fin 2 := ⟨(i 0).val / 256, by have : (i 0).val < 512 := (i 0).isLt; omega⟩
def halfLoc (i : S512x512.Idx) : S256x512.Idx := Shape.pair (d := ![256, 512]) ⟨(i 0).val % 256, Nat.mod_lt _ (by decide)⟩ (i 1)

/-- The partial product of one device, both batches. -/
def Inp.partial (I : Inp F) : Vec F S512x512 .bf16 := fun i => if halfOf i = 0 then I.low (halfLoc i) else I.high (halfLoc i)

theorem half_emb (h : Fin 2) {off : Fin 2 → Nat} (ho : off = ![256 * h.val, 0]) {inb : ∀ a, off a + S256x512.size a ≤ S512x512.size a} (i : S512x512.Idx) (hi : halfOf i = h) :
    (Rect.unit (s := S512x512) off S256x512.size inb).emb (halfLoc i) = i := by
  subst ho; subst hi
  funext a; apply Fin.ext
  rw [Rect.emb_apply]
  match a with
  | 0 => show 256 * ((i 0).val / 256) + 1 * ((i 0).val % 256) = (i 0).val; omega
  | 1 => show 0 + 1 * (i 1).val = (i 1).val; omega

theorem half_of_emb (h : Fin 2) {off : Fin 2 → Nat} (ho : off = ![256 * h.val, 0]) {inb : ∀ a, off a + S256x512.size a ≤ S512x512.size a} (j : S256x512.Idx) :
    halfOf ((Rect.unit (s := S512x512) off S256x512.size inb).emb j) = h := by
  subst ho
  apply Fin.ext
  show (((Rect.unit (s := S512x512) _ S256x512.size inb).emb j) 0).val / 256 = h.val
  rw [Rect.emb_apply]
  show (256 * h.val + 1 * (j 0).val) / 256 = h.val
  have : (j 0).val < 256 := (j 0).isLt
  omega

/-- What a store to one half leaves there. -/
theorem write_half (h : Fin 2) {off : Fin 2 → Nat} (ho : off = ![256 * h.val, 0]) {inb : ∀ a, off a + S256x512.size a ≤ S512x512.size a}
    (f : Vec F S512x512 .bf16) (w : FVec F S256x512 .bf16) (i : S512x512.Idx) (hi : halfOf i = h) :
    ((sndM.access (Rect.unit (s := S512x512) off S256x512.size inb)).write (Elt F) f w Finset.univ : Vec F S512x512 .bf16) i = w (halfLoc i) := by
  have e := half_emb h ho (inb := inb) i hi
  have := (View.write_emb_of_mem (v := sndM.access (Rect.unit (s := S512x512) off S256x512.size inb)) (Val := Elt F) f w (Finset.mem_univ (halfLoc i)))
  refine Eq.trans ?_ (this.trans rfl)
  exact congrArg _ e.symm

theorem halfOf_segOf (i : S512x512.Idx) : halfOf i = 0 ↔ (segOf i).val < 4 := by
  have : (i 0).val < 512 := (i 0).isLt
  rw [Fin.ext_iff]
  show (i 0).val / 256 = 0 ↔ (i 0).val / 64 < 4
  omega
theorem halfOf_one (i : S512x512.Idx) : halfOf i = 1 ↔ 4 ≤ (segOf i).val := by
  have : (i 0).val < 512 := (i 0).isLt
  rw [Fin.ext_iff]
  show (i 0).val / 256 = 1 ↔ 4 ≤ (i 0).val / 64
  omega

/-! ## The places the index words name -/

section Words

variable (c : Dev nD)

theorem dev1 : (⟨k0_dev1 c, k0_dev1_lt c⟩ : Dev nD) = c + (0 : Fin 7).succ := by revert c; decide
theorem dev2 : (⟨k0_dev2 c, k0_dev2_lt c⟩ : Dev nD) = c + (1 : Fin 7).succ := by revert c; decide
theorem dev3 : (⟨k0_dev3 c, k0_dev3_lt c⟩ : Dev nD) = c + (2 : Fin 7).succ := by revert c; decide
theorem dev4 : (⟨k0_dev4 c, k0_dev4_lt c⟩ : Dev nD) = c + (3 : Fin 7).succ := by revert c; decide
theorem dev5 : (⟨k0_dev5 c, k0_dev5_lt c⟩ : Dev nD) = c + (4 : Fin 7).succ := by revert c; decide
theorem dev6 : (⟨k0_dev6 c, k0_dev6_lt c⟩ : Dev nD) = c + (5 : Fin 7).succ := by revert c; decide
theorem dev7 : (⟨k0_dev7 c, k0_dev7_lt c⟩ : Dev nD) = c + (6 : Fin 7).succ := by revert c; decide
theorem dev16 : (⟨k0_dev16 c, k0_dev16_lt c⟩ : Dev nD) = c + (0 : Fin 7).succ := by revert c; decide
theorem dev17 : (⟨k0_dev17 c, k0_dev17_lt c⟩ : Dev nD) = c + (1 : Fin 7).succ := by revert c; decide
theorem dev18 : (⟨k0_dev18 c, k0_dev18_lt c⟩ : Dev nD) = c + (2 : Fin 7).succ := by revert c; decide
theorem dev19 : (⟨k0_dev19 c, k0_dev19_lt c⟩ : Dev nD) = c + (3 : Fin 7).succ := by revert c; decide
theorem dev20 : (⟨k0_dev20 c, k0_dev20_lt c⟩ : Dev nD) = c + (4 : Fin 7).succ := by revert c; decide
theorem dev21 : (⟨k0_dev21 c, k0_dev21_lt c⟩ : Dev nD) = c + (5 : Fin 7).succ := by revert c; decide
theorem dev22 : (⟨k0_dev22 c, k0_dev22_lt c⟩ : Dev nD) = c + (6 : Fin 7).succ := by revert c; decide

theorem cond1 : k0_cond1 c = 1#1 ↔ c ≠ 0 := by revert c; decide
theorem cond2 : k0_cond2 c = 1#1 ↔ c ≠ 1 := by revert c; decide
theorem cond3 : k0_cond3 c = 1#1 ↔ c ≠ 2 := by revert c; decide
theorem cond4 : k0_cond4 c = 1#1 ↔ c ≠ 3 := by revert c; decide
theorem cond5 : k0_cond5 c = 1#1 ↔ c ≠ 4 := by revert c; decide
theorem cond6 : k0_cond6 c = 1#1 ↔ c ≠ 5 := by revert c; decide
theorem cond7 : k0_cond7 c = 1#1 ↔ c ≠ 6 := by revert c; decide
theorem cond8 : k0_cond8 c = 1#1 ↔ c ≠ 7 := by revert c; decide
theorem cond9 : k0_cond9 c = 1#1 ↔ c ≠ 0 := by revert c; decide
theorem cond10 : k0_cond10 c = 1#1 ↔ c ≠ 1 := by revert c; decide
theorem cond11 : k0_cond11 c = 1#1 ↔ c ≠ 2 := by revert c; decide
theorem cond12 : k0_cond12 c = 1#1 ↔ c ≠ 3 := by revert c; decide
theorem cond13 : k0_cond13 c = 1#1 ↔ c ≠ 4 := by revert c; decide
theorem cond14 : k0_cond14 c = 1#1 ↔ c ≠ 5 := by revert c; decide
theorem cond15 : k0_cond15 c = 1#1 ↔ c ≠ 6 := by revert c; decide
theorem cond16 : k0_cond16 c = 1#1 ↔ c ≠ 7 := by revert c; decide

theorem off1 : k0_off1 c = ![c.val] := by revert c; decide
theorem off3 : k0_off3 c = ![c.val] := by revert c; decide
theorem off5 : k0_off5 c = ![c.val] := by revert c; decide
theorem off7 : k0_off7 c = ![c.val] := by revert c; decide
theorem off9 : k0_off9 c = ![c.val] := by revert c; decide
theorem off11 : k0_off11 c = ![c.val] := by revert c; decide
theorem off13 : k0_off13 c = ![c.val] := by revert c; decide
theorem off15 : k0_off15 c = ![c.val] := by revert c; decide
theorem off20 : k0_off20 c = ![c.val] := by revert c; decide
theorem off2 : k0_off2 c = segOff c := by revert c; decide
theorem off4 : k0_off4 c = segOff c := by revert c; decide
theorem off6 : k0_off6 c = segOff c := by revert c; decide
theorem off8 : k0_off8 c = segOff c := by revert c; decide
theorem off10 : k0_off10 c = segOff c := by revert c; decide
theorem off12 : k0_off12 c = segOff c := by revert c; decide
theorem off14 : k0_off14 c = segOff c := by revert c; decide
theorem off16 : k0_off16 c = segOff c := by revert c; decide
theorem off17 : k0_off17 c = segOff c := by revert c; decide
theorem off21 : k0_off21 c = segOff c := by revert c; decide
theorem off18 : (k0_off18 c 1#32 = ![(c + (0 : Fin 7).succ).val]) ∧ (k0_off18 c 2#32 = ![(c + (1 : Fin 7).succ).val]) ∧ (k0_off18 c 3#32 = ![(c + (2 : Fin 7).succ).val])
    ∧ (k0_off18 c 4#32 = ![(c + (3 : Fin 7).succ).val]) ∧ (k0_off18 c 5#32 = ![(c + (4 : Fin 7).succ).val]) ∧ (k0_off18 c 6#32 = ![(c + (5 : Fin 7).succ).val])
    ∧ (k0_off18 c 7#32 = ![(c + (6 : Fin 7).succ).val]) := by revert c; decide

end Words

/-! The semaphore a slice names. -/

theorem sem_rsS (t : Fin 8) {off : Fin 1 → Nat} (h : off = ![t.val]) {inb : ∀ a, off a + S1.size a ≤ S8.size a} :
    ((cc0_scratch3.slice (Rect.unit (s := S8) off S1.size inb)).squeeze S_ squeezes_S1_S_).sem = rsS t := by subst h; revert t; decide
theorem sem_rsR (t : Fin 8) {off : Fin 1 → Nat} (h : off = ![t.val]) {inb : ∀ a, off a + S1.size a ≤ S8.size a} :
    ((cc0_scratch4.slice (Rect.unit (s := S8) off S1.size inb)).squeeze S_ squeezes_S1_S_).sem = rsR t := by subst h; revert t; decide
theorem sem_agS (t : Fin 7) {off : Fin 1 → Nat} (h : off = ![t.val]) {inb : ∀ a, off a + S1.size a ≤ S7.size a} :
    ((cc0_scratch5.slice (Rect.unit (s := S7) off S1.size inb)).squeeze S_ squeezes_S1_S_).sem = agS t := by subst h; revert t; decide
theorem sem_agR (t : Fin 8) {off : Fin 1 → Nat} (h : off = ![t.val]) {inb : ∀ a, off a + S1.size a ≤ S8.size a} :
    ((cc0_scratch6.slice (Rect.unit (s := S8) off S1.size inb)).squeeze S_ squeezes_S1_S_).sem = agR t := by subst h; revert t; decide
theorem sem_bar : (SemArray.scalar (sig.barrier 0 (by decide)) : Sems sig S_).sem = barS := rfl

/-! ## The orders in which the others are addressed -/

/-- The devices further than `n` places on. -/
def upTo (c : Fin 8) (n : ℕ) : Finset (Fin 8) := Finset.univ.filter fun t => n < (t - c).val
theorem upTo_zero (c : Dev nD) : upTo c 0 = others c := by revert c; decide
theorem upTo_end (c : Dev nD) : upTo c 7 = ∅ := by revert c; decide
theorem upTo_erase (c : Dev nD) (i : Fin 7) : (upTo c i.val).erase (c + i.succ) = upTo c (i.val + 1) := by revert c i; decide
theorem mem_upTo (c : Dev nD) (i : Fin 7) : c + i.succ ∈ upTo c i.val := by revert c i; decide
theorem mem_others (c : Dev nD) (i : Fin 7) : c + i.succ ∈ others c := by revert c i; decide

/-- The other devices numbered `n` or more. -/
def fromN (c : Fin 8) (n : ℕ) : Finset (Fin 8) := Finset.univ.filter fun t => t ≠ c ∧ n ≤ t.val
theorem fromN_zero (c : Dev nD) : fromN c 0 = others c := by revert c; decide
theorem fromN_end (c : Dev nD) : fromN c 8 = ∅ := by revert c; decide
theorem fromN_erase (c : Dev nD) (t : Fin 8) : (fromN c t.val).erase t = fromN c (t.val + 1) := by revert c t; decide
theorem mem_fromN (c : Dev nD) (t : Fin 8) : t ∈ fromN c t.val ↔ c ≠ t := by revert c t; decide

/-- The copies numbered `n` or more. -/
def from7 (n : ℕ) : Finset (Fin 7) := Finset.univ.filter fun j => n ≤ j.val
theorem from7_zero : from7 0 = Finset.univ := by decide
theorem from7_end : from7 7 = ∅ := by decide
theorem from7_erase (j : Fin 7) : (from7 j.val).erase j = from7 (j.val + 1) := by revert j; decide
theorem mem_from7 (j : Fin 7) : j ∈ from7 j.val := by revert j; decide

section Rules

variable (A : Dev nD → Vec F S512x512 .bf16) (c : Dev nD)

theorem wp_sig (i : Fin 7) {n : Dev nD} (hn : n = c + i.succ) {sem : Sem sig} (hsem : sem = barS) {a : ℕ} (ha : a = 1) {α : Type} {Q : α → sProp 𝕄} {k : PUnit → Prog (TpuEff nD τ sig (Elt F) Λ₀ .tc) α} :
    iprop(env A c ∗ sigState c (upTo c i.val))
      ⊢ iprop((sigState c (upTo c (i.val + 1)) -∗ wp frame (wpE (defs₀ (F := F)) 𝒱₀ c none) Set.univ (k ⟨⟩) Q)
          -∗ wp frame (wpE (defs₀ (F := F)) 𝒱₀ c none) Set.univ (.op (.semSignal (Dev.tc n) sem a) k) Q) := by
  have h := wp_signal_to A c n (c + i.succ) hn (upTo c i.val) (mem_others c i) (mem_upTo c i) hsem ha (Q := Q) (k := k)
  rw [upTo_erase] at h; exact h

theorem wp_send (t : Fin 8) {P : Prop} [Decidable P] (hP : P ↔ c ≠ t)
    {n : P → Dev nD} (hn : ∀ h, n h = t) {a b : P → DmaSem sig} (ha : ∀ h, a h = rsS t) (hb : ∀ h, b h = rsR c)
    {src dst : P → Memref sig .tc .vmem S64x512 .bf16} (hs : ∀ h, src h = segM sndM t) (hdt : ∀ h, dst h = segM rsM c)
    {hsc : ∀ h, (dst h).view.ref.isScScratch = false}
    {hsrc : ∀ h, (src h).view.WordExact} {hdst : ∀ h, (dst h).view.WordExact}
    {hsem : ∀ h, DmaTarget.Typed .vmem (.dma (b h)) (.remote (Dev.tc (n h) : Thread nD τ) (dst h) (.dma (a h)) (hsc h))}
    {α : Type} {Q : α → sProp 𝕄} {k : Prog (TpuEff nD τ sig (Elt F) Λ₀ .tc) α} :
    iprop(env A c ∗ rsState c (fromN c t.val) ∗ sndP c t fullShare (A c))
      ⊢ iprop(((rsState c (fromN c (t.val + 1)) ∗ keep A c t) -∗ wp frame (wpE (defs₀ (F := F)) 𝒱₀ c none) Set.univ k Q)
          -∗ wp frame (wpE (defs₀ (F := F)) 𝒱₀ c none) Set.univ
              (if h : P then .op (.enqueueDma (src h) (.remote (Dev.tc (n h) : Thread nD τ) (dst h) (.dma (a h)) (hsc h)) (.dma (b h)) (hsrc h) (hdst h) (hsem h)) (fun _ => k)
                else k) Q) := by
  have h := wp_rs_send A c t (fromN c t.val) (mem_fromN c t) hP hn ha hb hs hdt (hsc := hsc) (hsrc := hsrc) (hdst := hdst) (hsem := hsem) (Q := Q) (k := k)
  rw [fromN_erase] at h; exact h

theorem wp_rsw (i : Fin 7) {q : DmaSem sig} (hq : q = rsR (c + i.succ))
    {src dst : Memref sig .tc .vmem S64x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(env A c ∗ rsWaitState A c (upTo c i.val))
      ⊢ iprop((rsWaitState A c (upTo c (i.val + 1)) -∗ wp frame (wpE (defs₀ (F := F)) 𝒱₀ c none) Set.univ (k ⟨⟩) Q)
          -∗ wp frame (wpE (defs₀ (F := F)) 𝒱₀ c none) Set.univ (.op (.waitDma2 q src dst hsrc hdst) k) Q) := by
  have h := wp_rs_wait A c (c + i.succ) (mem_others c i) (upTo c i.val) (mem_upTo c i) hq (hsrc := hsrc) (hdst := hdst) hN (Q := Q) (k := k)
  rw [upTo_erase] at h; exact h

theorem wp_share (i : Fin 7) {n : Dev nD} (hn : n = c + i.succ) {a b : DmaSem sig} (ha : a = agS i) (hb : b = agR c)
    {src dst : Memref sig .tc .vmem S64x512 .bf16} (hs : src = segM agM c) (hdt : dst = segM agM c)
    {hsc : dst.view.ref.isScScratch = false} {hsrc : src.view.WordExact} {hdst : dst.view.WordExact}
    {hsem : DmaTarget.Typed .vmem (.dma b) (.remote (Dev.tc n : Thread nD τ) dst (.dma a) hsc)}
    {α : Type} {Q : α → sProp 𝕄} {k : PUnit → Prog (TpuEff nD τ sig (Elt F) Λ₀ .tc) α} :
    iprop(env A c ∗ agState A c (upTo c i.val) (from7 i.val))
      ⊢ iprop((agState A c (upTo c (i.val + 1)) (from7 (i.val + 1)) -∗ wp frame (wpE (defs₀ (F := F)) 𝒱₀ c none) Set.univ (k ⟨⟩) Q)
          -∗ wp frame (wpE (defs₀ (F := F)) 𝒱₀ c none) Set.univ
              (.op (.enqueueDma src (.remote (Dev.tc n : Thread nD τ) dst (.dma a) hsc) (.dma b) hsrc hdst hsem) k) Q) := by
  have h := wp_ag_copy A c (c + i.succ) i (mem_others c i) (upTo c i.val) (mem_upTo c i) (from7 i.val) (mem_from7 i) hn ha hb hs hdt (hsc := hsc) (hsrc := hsrc) (hdst := hdst) (hsem := hsem) (Q := Q) (k := k)
  rw [upTo_erase, from7_erase] at h; exact h

theorem wp_agw (i : Fin 7) {q : DmaSem sig} (hq : q = agR (c + i.succ))
    {src dst : Memref sig .tc .vmem S64x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(env A c ∗ agWaitState A c (upTo c i.val))
      ⊢ iprop((agWaitState A c (upTo c (i.val + 1)) -∗ wp frame (wpE (defs₀ (F := F)) 𝒱₀ c none) Set.univ (k ⟨⟩) Q)
          -∗ wp frame (wpE (defs₀ (F := F)) 𝒱₀ c none) Set.univ (.op (.waitDma2 q src dst hsrc hdst) k) Q) := by
  have h := wp_ag_wait A c (c + i.succ) (mem_others c i) (upTo c i.val) (mem_upTo c i) hq (hsrc := hsrc) (hdst := hdst) hN (Q := Q) (k := k)
  rw [upTo_erase] at h; exact h

theorem wp_sent (t : Fin 8) {P : Prop} [Decidable P] (hP : P ↔ c ≠ t)
    {q : P → DmaSem sig} (hq : ∀ h, q h = rsS t)
    {src dst : P → Memref sig .tc .vmem S64x512 .bf16} {hsrc : ∀ h, (src h).view.WordExact} {hdst : ∀ h, (dst h).view.WordExact}
    (hN : ∀ h, (dst h).view.dmaCredit = N)
    {α : Type} {Q : α → sProp 𝕄} {k : Prog (TpuEff nD τ sig (Elt F) Λ₀ .tc) α} :
    iprop(env A c ∗ rsBackState A c (fromN c t.val))
      ⊢ iprop((rsBackState A c (fromN c (t.val + 1)) -∗ wp frame (wpE (defs₀ (F := F)) 𝒱₀ c none) Set.univ k Q)
          -∗ wp frame (wpE (defs₀ (F := F)) 𝒱₀ c none) Set.univ
              (if h : P then .op (.waitDma2 (q h) (src h) (dst h) (hsrc h) (hdst h)) (fun _ => k) else k) Q) := by
  have h := wp_rs_back A c t (fromN c t.val) (mem_fromN c t) hP hq (hsrc := hsrc) (hdst := hdst) hN (Q := Q) (k := k)
  rw [fromN_erase] at h; exact h

theorem wp_shared (j : Fin 7) {q : DmaSem sig} (hq : q = agS j)
    {src dst : Memref sig .tc .vmem S64x512 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(env A c ∗ agBackState A c (from7 j.val))
      ⊢ iprop((agBackState A c (from7 (j.val + 1)) -∗ wp frame (wpE (defs₀ (F := F)) 𝒱₀ c none) Set.univ (k ⟨⟩) Q)
          -∗ wp frame (wpE (defs₀ (F := F)) 𝒱₀ c none) Set.univ (.op (.waitDma2 q src dst hsrc hdst) k) Q) := by
  have h := wp_ag_back A c j (from7 j.val) (mem_from7 j) hq (hsrc := hsrc) (hdst := hdst) hN (Q := Q) (k := k)
  rw [from7_erase] at h; exact h

end Rules

end Cert.KernelIdeal.Exchange
-- ==== Proof.BodyA.lean ====
/-
The first parts of the kernel's body on one device: the signals, the loads, and the partial product of the first batch.
-/
module

public import proofs.«01_k».proof.Proof.Facts

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Loads -/

theorem hz2 : (![0, 0] : Fin 2 → Nat) = fun _ => 0 := funext fun a => by fin_cases a <;> rfl
theorem hz3 : (![0, 0, 0] : Fin 3 → Nat) = fun _ => 0 := funext fun a => by fin_cases a <;> rfl

theorem read_x (f : Vec F S2x256x512 .bf16) :
    (Memref.whole cc0_stg0_0).view.readAt (Elt F) (Rect.unit (s := S2x256x512) ![0, 0, 0] S2x256x512.size inb_S2x256x512_S2x256x512_0_0_0).toLoadRect f = f :=
  Memref.readAt_unit_zero (Elt F) cc0_stg0_0 hz3 _ _
theorem read_wq (f : Vec F S512x256 .bf16) :
    (Memref.whole cc0_stg1_0).view.readAt (Elt F) (Rect.unit (s := S512x256) ![0, 0] S512x256.size inb_S512x256_S512x256_0_0).toLoadRect f = f :=
  Memref.readAt_unit_zero (Elt F) cc0_stg1_0 hz2 _ _
theorem read_wo (f : Vec F S256x512 .bf16) :
    (Memref.whole cc0_stg4_0).view.readAt (Elt F) (Rect.unit (s := S256x512) ![0, 0] S256x512.size inb_S256x512_S256x512_0_0).toLoadRect f = f :=
  Memref.readAt_unit_zero (Elt F) cc0_stg4_0 hz2 _ _
theorem read_k {off : Fin 4 → Nat} {inb : ∀ a, off a + S1x256x1x64.size a ≤ S2x256x4x64.size a} (f : Vec F S2x256x4x64 .bf16) :
    (Memref.whole cc0_stg2_0).view.readAt (Elt F) (Rect.unit (s := S2x256x4x64) off S1x256x1x64.size inb).toLoadRect f = cut inb f := rfl
theorem read_v {off : Fin 4 → Nat} {inb : ∀ a, off a + S1x256x1x64.size a ≤ S2x256x4x64.size a} (f : Vec F S2x256x4x64 .bf16) :
    (Memref.whole cc0_stg3_0).view.readAt (Elt F) (Rect.unit (s := S2x256x4x64) off S1x256x1x64.size inb).toLoadRect f = cut inb f := rfl

section Parts

variable (A : Dev nD → Vec F S512x512 .bf16) (c : Dev nD) (I : Inp F)

theorem run1 : ∀ Q, iprop(env A c ∗ sigState c (upTo c 0))
    ⊢ iprop((∀ v2 v24, sigState c (upTo c 5) -∗ Q ⟨c, v2, SemArray.scalar (sig.barrier 0 (by decide)), v24, 8#32⟩)
      -∗ wp frame (wpE (defs₀ (F := F)) 𝒱₀ c none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  intro Q
  simp only [k0_part1_eq_skeleton]; unfold k0_part1_skel
  simp only [semSignalWord, semWaitWord, Prog.lift, Prog.bind_op, Prog.bind_ret, Prog.pure_eq_ret, Prog.bind_assoc, wp_deviceId]
  iintro ⟨#HE, HS⟩ Hk
  iapply (wp_sig A c 0 (dev1 c) rfl (a := 1) rfl) $$ [HS]
  · isplitr; · iexact HE
    iexact HS
  iintro HS
  iapply (wp_sig A c 1 (dev2 c) rfl (a := 1) rfl) $$ [HS]
  · isplitr; · iexact HE
    iexact HS
  iintro HS
  iapply (wp_sig A c 2 (dev3 c) rfl (a := 1) rfl) $$ [HS]
  · isplitr; · iexact HE
    iexact HS
  iintro HS
  iapply (wp_sig A c 3 (dev4 c) rfl (a := 1) rfl) $$ [HS]
  · isplitr; · iexact HE
    iexact HS
  iintro HS
  iapply (wp_sig A c 4 (dev5 c) rfl (a := 1) rfl) $$ [HS]
  · isplitr; · iexact HE
    iexact HS
  iintro HS
  rw [wp_ret]; imodintro
  iapply Hk; iexact HS

theorem run2 (v2 v24 c8 : BitVec 32) : ∀ Q, iprop(env A c ∗ sigState c (upTo c 5) ∗ (((c : Thread nD τ).loc cc0_stg0_0) ↦{fullShare} I.x)
      ∗ (((c : Thread nD τ).loc cc0_stg1_0) ↦{fullShare} I.wq) ∗ (((c : Thread nD τ).loc cc0_stg4_0) ↦{fullShare} I.wo))
    ⊢ iprop(((sigState c (upTo c 7) ∗ (((c : Thread nD τ).loc cc0_stg0_0) ↦{fullShare} I.x)
      ∗ (((c : Thread nD τ).loc cc0_stg1_0) ↦{fullShare} I.wq) ∗ (((c : Thread nD τ).loc cc0_stg4_0) ↦{fullShare} I.wo))
        -∗ Q ⟨I.woB, I.q, k0_pay3, k0_pay4, k0_pay5, 0#32⟩)
      -∗ wp frame (wpE (defs₀ (F := F)) 𝒱₀ c none) Set.univ (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 (by decide))) v24 c8) Q) := by
  intro Q
  simp only [k0_part2_eq_skeleton]; unfold k0_part2_skel
  simp only [semSignalWord, semWaitWord, Prog.lift, Prog.bind_op, Prog.bind_ret, Prog.pure_eq_ret, Prog.bind_assoc, wp_deviceId]
  unfold Inp.woB Inp.q
  iintro ⟨#HE, HS, Hx, Hq, Ho⟩ Hk
  iapply (wp_sig A c 5 (dev6 c) rfl (a := 1) rfl) $$ [HS]
  · isplitr; · iexact HE
    iexact HS
  iintro HS
  iapply (wp_sig A c 6 (dev7 c) rfl (a := 1) rfl) $$ [HS]
  · isplitr; · iexact HE
    iexact HS
  iintro HS
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hq; iintro Hq
  rw [read_wq]
  iapply (wp_load 𝒱₀ (c : Thread nD τ) none Set.univ (m := Memref.whole cc0_stg4_0) (Finset.subset_univ _)) $$ Ho; iintro Ho
  rw [read_wo, wp_ret]; imodintro
  iapply Hk
  isplitl [HS]; · iexact HS
  isplitl [Hx]; · iexact Hx
  isplitl [Hq]; · iexact Hq
  iexact Ho

theorem run3 : ∀ Q, ((((c : Thread nD τ).loc cc0_stg2_0) ↦{fullShare} I.k) : sProp 𝕄)
    ⊢ iprop(((((c : Thread nD τ).loc cc0_stg2_0) ↦{fullShare} I.k) -∗ Q ⟨Inp.mask, I.e00, I.s00⟩)
      -∗ wp frame (wpE (defs₀ (F := F)) 𝒱₀ c none) Set.univ (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 I.q k0_pay3 k0_pay4 k0_pay5 0#32) Q) := by
  intro Q
  simp only [k0_part3_eq_skeleton]; unfold k0_part3_skel
  simp only [semSignalWord, semWaitWord, Prog.lift, Prog.bind_op, Prog.bind_ret, Prog.pure_eq_ret, Prog.bind_assoc, wp_deviceId]
  unfold Inp.mask Inp.e00 Inp.s00
  iintro HK Hk
  iapply (wp_load 𝒱₀ (c : Thread nD τ) none Set.univ (m := Memref.whole cc0_stg2_0) (Finset.subset_univ _)) $$ HK; iintro HK
  rw [read_k, wp_ret]; imodintro
  iapply Hk; iexact HK

theorem run4 : ∀ Q, (iprop((((c : Thread nD τ).loc cc0_stg2_0) ↦{fullShare} I.k) ∗ (((c : Thread nD τ).loc cc0_stg3_0) ↦{fullShare} I.v)) : sProp 𝕄)
    ⊢ iprop((((((c : Thread nD τ).loc cc0_stg2_0) ↦{fullShare} I.k) ∗ (((c : Thread nD τ).loc cc0_stg3_0) ↦{fullShare} I.v)) -∗ Q ⟨I.c00, I.c01, I.q02, I.k02⟩)
      -∗ wp frame (wpE (defs₀ (F := F)) 𝒱₀ c none) Set.univ (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 I.q Inp.mask I.e00 I.s00) Q) := by
  intro Q
  simp only [k0_part4_eq_skeleton]; unfold k0_part4_skel
  simp only [semSignalWord, semWaitWord, Prog.lift, Prog.bind_op, Prog.bind_ret, Prog.pure_eq_ret, Prog.bind_assoc, wp_deviceId]
  unfold Inp.c00 Inp.c01 Inp.q02 Inp.k02
  iintro ⟨HK, HV⟩ Hk
  iapply (wp_load 𝒱₀ (c : Thread nD τ) none Set.univ (m := Memref.whole cc0_stg3_0) (Finset.subset_univ _)) $$ HV; iintro HV
  rw [read_v]
  iapply (wp_load 𝒱₀ (c : Thread nD τ) none Set.univ (m := Memref.whole cc0_stg2_0) (Finset.subset_univ _)) $$ HK; iintro HK
  rw [read_k]
  iapply (wp_load 𝒱₀ (c : Thread nD τ) none Set.univ (m := Memref.whole cc0_stg3_0) (Finset.subset_univ _)) $$ HV; iintro HV
  rw [read_v]
  iapply (wp_load 𝒱₀ (c : Thread nD τ) none Set.univ (m := Memref.whole cc0_stg2_0) (Finset.subset_univ _)) $$ HK; iintro HK
  rw [read_k, wp_ret]; imodintro
  iapply Hk; isplitl [HK]; · iexact HK
  iexact HV

theorem run5 : ∀ Q, (iprop((((c : Thread nD τ).loc cc0_stg2_0) ↦{fullShare} I.k) ∗ (((c : Thread nD τ).loc cc0_stg3_0) ↦{fullShare} I.v)) : sProp 𝕄)
    ⊢ iprop((((((c : Thread nD τ).loc cc0_stg2_0) ↦{fullShare} I.k) ∗ (((c : Thread nD τ).loc cc0_stg3_0) ↦{fullShare} I.v)) -∗ Q ⟨I.c02, I.p03⟩)
      -∗ wp frame (wpE (defs₀ (F := F)) 𝒱₀ c none) Set.univ (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 I.q Inp.mask I.q02 I.k02) Q) := by
  intro Q
  simp only [k0_part5_eq_skeleton]; unfold k0_part5_skel
  simp only [semSignalWord, semWaitWord, Prog.lift, Prog.bind_op, Prog.bind_ret, Prog.pure_eq_ret, Prog.bind_assoc, wp_deviceId]
  unfold Inp.c02 Inp.p03
  iintro ⟨HK, HV⟩ Hk
  iapply (wp_load 𝒱₀ (c : Thread nD τ) none Set.univ (m := Memref.whole cc0_stg3_0) (Finset.subset_univ _)) $$ HV; iintro HV
  rw [read_v]
  iapply (wp_load 𝒱₀ (c : Thread nD τ) none Set.univ (m := Memref.whole cc0_stg2_0) (Finset.subset_univ _)) $$ HK; iintro HK
  rw [read_k, wp_ret]; imodintro
  iapply Hk; isplitl [HK]; · iexact HK
  iexact HV

theorem run7 : ∀ Q, (iprop((((c : Thread nD τ).loc cc0_stg2_0) ↦{fullShare} I.k) ∗ (((c : Thread nD τ).loc cc0_stg3_0) ↦{fullShare} I.v)) : sProp 𝕄)
    ⊢ iprop((((((c : Thread nD τ).loc cc0_stg2_0) ↦{fullShare} I.k) ∗ (((c : Thread nD τ).loc cc0_stg3_0) ↦{fullShare} I.v)) -∗ Q ⟨I.c10, I.p11⟩)
      -∗ wp frame (wpE (defs₀ (F := F)) 𝒱₀ c none) Set.univ (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 I.q Inp.mask I.q10) Q) := by
  intro Q
  simp only [k0_part7_eq_skeleton]; unfold k0_part7_skel
  simp only [semSignalWord, semWaitWord, Prog.lift, Prog.bind_op, Prog.bind_ret, Prog.pure_eq_ret, Prog.bind_assoc, wp_deviceId]
  unfold Inp.c10 Inp.p11
  iintro ⟨HK, HV⟩ Hk
  iapply (wp_load 𝒱₀ (c : Thread nD τ) none Set.univ (m := Memref.whole cc0_stg2_0) (Finset.subset_univ _)) $$ HK; iintro HK
  rw [read_k]
  iapply (wp_load 𝒱₀ (c : Thread nD τ) none Set.univ (m := Memref.whole cc0_stg3_0) (Finset.subset_univ _)) $$ HV; iintro HV
  rw [read_v]
  iapply (wp_load 𝒱₀ (c : Thread nD τ) none Set.univ (m := Memref.whole cc0_stg2_0) (Finset.subset_univ _)) $$ HK; iintro HK
  rw [read_k, wp_ret]; imodintro
  iapply Hk; isplitl [HK]; · iexact HK
  iexact HV

theorem run8 : ∀ Q, (iprop((((c : Thread nD τ).loc cc0_stg2_0) ↦{fullShare} I.k) ∗ (((c : Thread nD τ).loc cc0_stg3_0) ↦{fullShare} I.v)) : sProp 𝕄)
    ⊢ iprop((((((c : Thread nD τ).loc cc0_stg2_0) ↦{fullShare} I.k) ∗ (((c : Thread nD τ).loc cc0_stg3_0) ↦{fullShare} I.v)) -∗ Q ⟨I.c11, I.c12, I.e13, I.s13⟩)
      -∗ wp frame (wpE (defs₀ (F := F)) 𝒱₀ c none) Set.univ (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 I.q Inp.mask I.p11) Q) := by
  intro Q
  simp only [k0_part8_eq_skeleton]; unfold k0_part8_skel
  simp only [semSignalWord, semWaitWord, Prog.lift, Prog.bind_op, Prog.bind_ret, Prog.pure_eq_ret, Prog.bind_assoc, wp_deviceId]
  unfold Inp.c11 Inp.c12 Inp.e13 Inp.s13
  iintro ⟨HK, HV⟩ Hk
  iapply (wp_load 𝒱₀ (c : Thread nD τ) none Set.univ (m := Memref.whole cc0_stg3_0) (Finset.subset_univ _)) $$ HV; iintro HV
  rw [read_v]
  iapply (wp_load 𝒱₀ (c : Thread nD τ) none Set.univ (m := Memref.whole cc0_stg2_0) (Finset.subset_univ _)) $$ HK; iintro HK
  rw [read_k]
  iapply (wp_load 𝒱₀ (c : Thread nD τ) none Set.univ (m := Memref.whole cc0_stg3_0) (Finset.subset_univ _)) $$ HV; iintro HV
  rw [read_v]
  iapply (wp_load 𝒱₀ (c : Thread nD τ) none Set.univ (m := Memref.whole cc0_stg2_0) (Finset.subset_univ _)) $$ HK; iintro HK
  rw [read_k, wp_ret]; imodintro
  iapply Hk; isplitl [HK]; · iexact HK
  iexact HV

end Parts

end Cert.KernelIdeal.Exchange
-- ==== Proof.BodyB.lean ====
/-
The exchange of the partial products: the first batch's rows are stored and sent, then the second's, and the
segments of the other devices are waited for and summed.
-/
module

public import proofs.«01_k».proof.Proof.BodyA
public import Idealize.ShloMosaic.Lib.Pipeline.Value

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Eight segments -/

theorem eight (Φ : Fin 8 → sProp 𝕄) : bigSep Finset.univ Φ = iprop(Φ 0 ∗ Φ 1 ∗ Φ 2 ∗ Φ 3 ∗ Φ 4 ∗ Φ 5 ∗ Φ 6 ∗ Φ 7) := by
  rw [take_eq (Finset.mem_univ 0), take_eq (i := 1) (by decide), take_eq (i := 2) (by decide), take_eq (i := 3) (by decide), take_eq (i := 4) (by decide),
    take_eq (i := 5) (by decide), take_eq (i := 6) (by decide),
    show ((((((((Finset.univ : Finset (Fin 8)).erase 0).erase 1).erase 2).erase 3).erase 4).erase 5).erase 6) = {7} by decide, bigSep_singleton]

theorem four (Φ : Fin 8 → sProp 𝕄) : bigSep ({4, 5, 6, 7} : Finset (Fin 8)) Φ = iprop(Φ 4 ∗ Φ 5 ∗ Φ 6 ∗ Φ 7) := by
  rw [take_eq (i := 4) (by decide), take_eq (i := 5) (by decide), take_eq (i := 6) (by decide),
    show ((((({4, 5, 6, 7} : Finset (Fin 8)).erase 4).erase 5).erase 6)) = {7} by decide, bigSep_singleton]

def highSet : Finset S512x512.Idx := ({4, 5, 6, 7} : Finset (Fin 8)).biUnion fun s => (segR s).set

theorem mem_highSet (i : S512x512.Idx) : i ∈ highSet ↔ halfOf i = 1 := by
  rw [halfOf_one]
  unfold highSet
  rw [Finset.mem_biUnion]
  constructor
  · rintro ⟨s, hs, hi⟩
    rw [(mem_segR s i).mp hi]
    exact (by decide : ∀ s ∈ ({4, 5, 6, 7} : Finset (Fin 8)), 4 ≤ s.val) s hs
  · intro h
    exact ⟨segOf i, by revert h; generalize segOf i = s; revert s; decide, (mem_segR _ i).mpr rfl⟩

theorem high_eq (c : Dev nD) (g : Vec F S512x512 .bf16) :
    ((((c : Thread nD τ).loc cc0_scratch0) ↦[highSet]{fullShare} g : sProp 𝕄)) = iprop(sndP c 4 fullShare g ∗ sndP c 5 fullShare g ∗ sndP c 6 fullShare g ∗ sndP c 7 fullShare g) := by
  have key := pointsTo_biUnion (Ix := Unit) (Name := ℕ) (U := UU) (Lvl := ℕ) (ℓ := (c : Thread nD τ).loc cc0_scratch0) (q := fullShare) (f := g)
    ({4, 5, 6, 7} : Finset (Fin 8)) (fun s : Fin 8 => (segR s).set) fun s _ t _ h => segR_disjoint h
  have k2 : (bigSep ({4, 5, 6, 7} : Finset (Fin 8)) fun s => (((c : Thread nD τ).loc cc0_scratch0) ↦[(segR s).set]{fullShare} g : sProp 𝕄))
      = bigSep ({4, 5, 6, 7} : Finset (Fin 8)) fun s => sndP c s fullShare g := bigSep_congr fun s _ => by unfold sndP; rw [set_snd]
  rw [four (fun s => sndP c s fullShare g)] at k2
  unfold highSet
  exact key.trans k2

theorem seg_congr (c : Dev nD) (s : Fin 8) (h : Fin 2) (hs : ∀ j, halfOf ((segR s).emb j) = h) {f g : Vec F S512x512 .bf16} (e : ∀ i, halfOf i = h → f i = g i) :
    (sndP c s fullShare f : sProp 𝕄) = sndP c s fullShare g := sndP_congr c s fullShare fun j => e _ (hs j)

theorem half_seg_low (s : Fin 8) (h : s.val < 4) (j : S64x512.Idx) : halfOf ((segR s).emb j) = 0 := by rw [halfOf_segOf, segOf_emb]; exact h
theorem half_seg_high (s : Fin 8) (h : 4 ≤ s.val) (j : S64x512.Idx) : halfOf ((segR s).emb j) = 1 := by rw [halfOf_one, segOf_emb]; exact h

theorem low_split (c : Dev nD) (g a : Vec F S512x512 .bf16) (e : ∀ i, halfOf i = 0 → g i = a i) :
    ((((c : Thread nD τ).loc cc0_scratch0) ↦{fullShare} g : sProp 𝕄))
      ⊢ iprop(sndP c 0 fullShare a ∗ sndP c 1 fullShare a ∗ sndP c 2 fullShare a ∗ sndP c 3 fullShare a ∗ (((c : Thread nD τ).loc cc0_scratch0) ↦[highSet]{fullShare} g)) := by
  rw [snd_split, eight, high_eq, seg_congr c 0 0 (half_seg_low 0 (by decide)) e, seg_congr c 1 0 (half_seg_low 1 (by decide)) e,
    seg_congr c 2 0 (half_seg_low 2 (by decide)) e, seg_congr c 3 0 (half_seg_low 3 (by decide)) e]
theorem high_split (c : Dev nD) (g a : Vec F S512x512 .bf16) (e : ∀ i, halfOf i = 1 → g i = a i) :
    ((((c : Thread nD τ).loc cc0_scratch0) ↦[highSet]{fullShare} g : sProp 𝕄))
      ⊢ iprop(sndP c 4 fullShare a ∗ sndP c 5 fullShare a ∗ sndP c 6 fullShare a ∗ sndP c 7 fullShare a) := by
  rw [high_eq, seg_congr c 4 1 (half_seg_high 4 (by decide)) e, seg_congr c 5 1 (half_seg_high 5 (by decide)) e,
    seg_congr c 6 1 (half_seg_high 6 (by decide)) e, seg_congr c 7 1 (half_seg_high 7 (by decide)) e]

theorem access_high {off : Fin 2 → Nat} (ho : off = ![256 * (1 : Fin 2).val, 0]) {inb : ∀ a, off a + S256x512.size a ≤ S512x512.size a} :
    (sndM.access (Rect.unit (s := S512x512) off S256x512.size inb)).set ⊆ highSet := by
  intro i hi
  have hi := (View.set_slice_whole cc0_scratch0 (Rect.unit (s := S512x512) off S256x512.size inb)).symm ▸ hi
  rw [mem_highSet]
  have hi' : i ∈ (Rect.unit (s := S512x512) off S256x512.size inb).set := (View.set_slice_whole cc0_scratch0 (Rect.unit (s := S512x512) off S256x512.size inb)) ▸ hi
  rw [← Rect.map_emb_univ, Finset.mem_map] at hi'
  obtain ⟨j, -, rfl⟩ := hi'
  exact half_of_emb 1 ho j

theorem access_seg (b : Memref sig .tc .vmem S512x512 .bf16) (s : Fin 8) {off : Fin 2 → Nat} (ho : off = segOff s) {inb : ∀ a, off a + S64x512.size a ≤ S512x512.size a} :
    (b.access (Rect.unit (s := S512x512) off S64x512.size inb)).set ⊆ (segM b s).view.set := by subst ho; exact Finset.Subset.refl _

theorem pay24_eq (v : Vec F S64x512 .bf16) : k0_pay24 v = v := by unfold k0_pay24; exact shapeCast_self v _

/-- A device's own segment, copied from its partial product. -/
theorem own_rs (A : Dev nD → Vec F S512x512 .bf16) (c : Dev nD) {off : Fin 2 → Nat} (ho : off = segOff c) {inb inb' : ∀ a, off a + S64x512.size a ≤ S512x512.size a} (f : Vec F S512x512 .bf16) :
    (rsP c c fullShare ((rsM.access (Rect.unit (s := S512x512) off S64x512.size inb)).write (Elt F) f
        (k0_pay24 ((sndM.access (Rect.unit (s := S512x512) off S64x512.size inb')).read (Elt F) (A c))) Finset.univ) : sProp 𝕄)
      = rsP c c fullShare (rsC A c) := by
  subst ho
  rw [pay24_eq]
  refine rsP_congr c c fullShare fun j => ?_
  rw [rsC_emb]
  exact (View.write_emb_of_mem (v := rsM.access (segR c)) _ _ (Finset.mem_univ j)).trans rfl
theorem own_ag (A : Dev nD → Vec F S512x512 .bf16) (c : Dev nD) {off : Fin 2 → Nat} (ho : off = segOff c) {inb : ∀ a, off a + S64x512.size a ≤ S512x512.size a} (f : Vec F S512x512 .bf16) :
    (agP c c fullShare ((agM.access (Rect.unit (s := S512x512) off S64x512.size inb)).write (Elt F) f (k0_pay25 (rsC A c)) Finset.univ) : sProp 𝕄)
      = agP c c fullShare (agC A) := by
  subst ho
  refine agP_congr c c fullShare fun j => ?_
  rw [agC_emb]
  exact (View.write_emb_of_mem (v := agM.access (segR c)) _ _ (Finset.mem_univ j)).trans rfl

theorem read_rs (f : Vec F S512x512 .bf16) :
    (Memref.whole cc0_scratch1).view.readAt (Elt F) (Rect.unit (s := S512x512) ![0, 0] S512x512.size inb_S512x512_S512x512_0_0).toLoadRect f = f :=
  Memref.readAt_unit_zero (Elt F) cc0_scratch1 hz2 _ _

theorem zip_mono {I : Type} [DecidableEq I] (s : Finset I) (Φ Ψ Φ' Ψ' : I → sProp 𝕄) (h : ∀ i ∈ s, iprop(Φ i ∗ Ψ i) ⊢ iprop(Φ' i ∗ Ψ' i)) :
    (iprop(bigSep s Φ ∗ bigSep s Ψ) : sProp 𝕄) ⊢ iprop(bigSep s Φ' ∗ bigSep s Ψ') := by
  exact (Entails.of_eq (bigSep_sep s Φ Ψ).symm).trans ((bigSep_mono h).trans (Entails.of_eq (bigSep_sep s Φ' Ψ')))

theorem unzip {I : Type} [DecidableEq I] (s : Finset I) (Φ Ψ : I → sProp 𝕄) : (bigSep s fun i => iprop(Φ i ∗ Ψ i)) ⊢ iprop(bigSep s Φ ∗ bigSep s Ψ) :=
  Entails.of_eq (bigSep_sep s Φ Ψ)

theorem credit_snd {off : Fin 2 → Nat} {inb : ∀ a, off a + S64x512.size a ≤ S512x512.size a} :
    (sndM.slice (Rect.unit (s := S512x512) off S64x512.size inb) (fun _ => rfl) : Memref sig .tc .vmem S64x512 .bf16).view.dmaCredit = N := rfl
theorem credit_rs {off : Fin 2 → Nat} {inb : ∀ a, off a + S64x512.size a ≤ S512x512.size a} :
    (rsM.slice (Rect.unit (s := S512x512) off S64x512.size inb) (fun _ => rfl) : Memref sig .tc .vmem S64x512 .bf16).view.dmaCredit = N := rfl
theorem credit_ag {off : Fin 2 → Nat} {inb : ∀ a, off a + S64x512.size a ≤ S512x512.size a} :
    (agM.slice (Rect.unit (s := S512x512) off S64x512.size inb) (fun _ => rfl) : Memref sig .tc .vmem S64x512 .bf16).view.dmaCredit = N := rfl

section Parts

variable (A : Dev nD → Vec F S512x512 .bf16) (c : Dev nD) (I : Inp F)

/-- The tokens of the segment copies. -/
def rsToks : sProp 𝕄 := bigSep (others c) fun t => iprop(dutyTok ER (rsSC c t) 0 0 ∗ dutyTok ER (rsRC t c) 0 0)
/-- The right to write a device's segment of the others' gathering buffers. -/
def agRight : sProp 𝕄 := bigSep (others c) fun t => iprop((∃ f, agP (F := F) t c fullShare f) ∗ reached ER (agRC t c) 0)

/-- After the barrier the segments can be sent. -/
theorem to_rsState : iprop(owesX c (Orem c ∅ (others c) (others c)) ∗ bigSep (others c) (fun d => barPay (F := F) c d) ∗ rsToks c)
    ⊢ (iprop(rsState c (fromN c 0) ∗ agRight c) : sProp 𝕄) := by
  unfold rsState agRight rsToks
  rw [fromN_zero, progress_start]
  iintro ⟨HO, Hb, Ht⟩
  ihave H := (zip_mono (others c) (fun d => barPay (F := F) c d) (fun t => iprop(dutyTok ER (rsSC c t) 0 0 ∗ dutyTok ER (rsRC t c) 0 0)) (rsTodo (F := F) c)
    (fun t => iprop((∃ f, agP (F := F) t c fullShare f) ∗ reached ER (agRC t c) 0)) fun t _ => by
      unfold barPay rsTodo
      iintro ⟨⟨Hr, Ha, H1, H2⟩, T1, T2⟩
      isplitr [Ha H2]
      · isplitl [T1]; · iexact T1
        isplitl [T2]; · iexact T2
        isplitl [Hr]; · iexact Hr
        iexact H1
      isplitl [Ha]; · iexact Ha
      iexact H2) $$ [Hb Ht]
  · isplitl [Hb]; · iexact Hb
    iexact Ht
  icases H with ⟨H1, H2⟩
  isplitr [H2]
  · isplitl [HO]; · iexact HO
    iexact H1
  iexact H2

theorem run6 (hA : A c = I.partial) (v2 : BitVec 32) : ∀ Q, iprop(env A c ∗ (((c : Thread nD τ).loc cc0_stg3_0) ↦{fullShare} I.v) ∗ (∃ f, (((c : Thread nD τ).loc cc0_scratch0) ↦{fullShare} f))
      ∗ sigState c (upTo c 7) ∗ cred (tallyAt (barC c) () 7) ∗ atPos ER (barC c) 0 ∅ 0 ∗ rsToks c)
    ⊢ iprop((((((c : Thread nD τ).loc cc0_stg3_0) ↦{fullShare} I.v) ∗ rsState c (fromN c 4) ∗ (keep A c 0 ∗ keep A c 1 ∗ keep A c 2 ∗ keep A c 3) ∗ (∃ f, (((c : Thread nD τ).loc cc0_scratch0) ↦[highSet]{fullShare} f))
        ∗ agRight c ∗ fin A (barC c)) -∗ Q I.q10)
      -∗ wp frame (wpE (defs₀ (F := F)) 𝒱₀ c none) Set.univ (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 (by decide))) I.woB I.q I.c00 I.c01 I.c02 I.p03) Q) := by
  intro Q
  simp only [k0_part6_eq_skeleton]; unfold k0_part6_skel
  simp only [semSignalWord, semWaitWord, Prog.lift, Prog.bind_op, Prog.bind_ret, Prog.pure_eq_ret, Prog.bind_assoc, wp_deviceId]
  unfold Inp.q10 sigState
  iintro ⟨#HE, HV, ⟨%f, HP⟩, ⟨HO, -⟩, Hc, Hat, Ht⟩ Hk
  rw [upTo_end]
  iapply (wp_load 𝒱₀ (c : Thread nD τ) none Set.univ (m := Memref.whole cc0_stg3_0) (Finset.subset_univ _)) $$ HV; iintro HV
  rw [read_v]
  iapply (wp_load 𝒱₀ (c : Thread nD τ) none Set.univ (m := sndM) (Finset.subset_univ _)) $$ HP; iintro HP
  iapply (wp_store 𝒱₀ (c : Thread nD τ) none Set.univ (m := sndM) (r := Rect.unit (s := S512x512) ![0, 0] S256x512.size inb_S512x512_S256x512_0_0) (Mk := Finset.univ) (Finset.subset_univ _)) $$ HP; iintro HP
  iapply (wp_wait_bar A c rfl (a := 7) rfl) $$ [Hc Hat HO]
  · isplitr; · iexact HE
    isplitl [Hc]; · iexact Hc
    isplitl [Hat]; · iexact Hat
    iexact HO
  iintro ⟨HO, Hf, Hpay⟩
  ihave H := (to_rsState c) $$ [HO Hpay Ht]
  · isplitl [HO]; · iexact HO
    isplitl [Hpay]; · iexact Hpay
    iexact Ht
  icases H with ⟨HR, Hag⟩
  ihave H := (low_split c _ (A c) fun i hi => (write_half 0 (by decide) _ _ i hi).trans (by
    rw [hA]; unfold Inp.partial; rw [if_pos hi]; rfl)) $$ HP
  icases H with ⟨H0, H1, H2, H3, HP⟩
  iapply (wp_send A c 0 (cond1 c) (fun _ => rfl) (fun _ => sem_rsS 0 (by decide)) (fun _ => sem_rsR c (off1 c))
    (fun _ => segM_eq sndM 0 (by decide)) (fun _ => segM_eq rsM c (off2 c))) $$ [HR H0]
  · isplitr; · iexact HE
    isplitl [HR]; · iexact HR
    iexact H0
  iintro ⟨HR, H0⟩
  iapply (wp_send A c 1 (cond2 c) (fun _ => rfl) (fun _ => sem_rsS 1 (by decide)) (fun _ => sem_rsR c (off3 c))
    (fun _ => segM_eq sndM 1 (by decide)) (fun _ => segM_eq rsM c (off4 c))) $$ [HR H1]
  · isplitr; · iexact HE
    isplitl [HR]; · iexact HR
    iexact H1
  iintro ⟨HR, H1⟩
  iapply (wp_send A c 2 (cond3 c) (fun _ => rfl) (fun _ => sem_rsS 2 (by decide)) (fun _ => sem_rsR c (off5 c))
    (fun _ => segM_eq sndM 2 (by decide)) (fun _ => segM_eq rsM c (off6 c))) $$ [HR H2]
  · isplitr; · iexact HE
    isplitl [HR]; · iexact HR
    iexact H2
  iintro ⟨HR, H2⟩
  iapply (wp_send A c 3 (cond4 c) (fun _ => rfl) (fun _ => sem_rsS 3 (by decide)) (fun _ => sem_rsR c (off7 c))
    (fun _ => segM_eq sndM 3 (by decide)) (fun _ => segM_eq rsM c (off8 c))) $$ [HR H3]
  · isplitr; · iexact HE
    isplitl [HR]; · iexact HR
    iexact H3
  iintro ⟨HR, H3⟩
  rw [wp_ret]; imodintro
  iapply Hk
  isplitl [HV]; · iexact HV
  isplitl [HR]; · iexact HR
  isplitl [H0 H1 H2 H3]
  · isplitl [H0]; · iexact H0
    isplitl [H1]; · iexact H1
    isplitl [H2]; · iexact H2
    iexact H3
  isplitl [HP]; · iexists _; iexact HP
  isplitl [Hag]; · iexact Hag
  iexact Hf

theorem run9 (hA : A c = I.partial) (v2 : BitVec 32) : ∀ Q, iprop(env A c ∗ (((c : Thread nD τ).loc cc0_stg3_0) ↦{fullShare} I.v) ∗ (∃ f, (((c : Thread nD τ).loc cc0_scratch0) ↦[highSet]{fullShare} f))
      ∗ rsState c (fromN c 4))
    ⊢ iprop((∀ w, ((((c : Thread nD τ).loc cc0_stg3_0) ↦{fullShare} I.v) ∗ rsState c (fromN c 7) ∗ (keep A c 4 ∗ keep A c 5 ∗ keep A c 6 ∗ sndP c 7 fullShare (A c))) -∗ Q w)
      -∗ wp frame (wpE (defs₀ (F := F)) 𝒱₀ c none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 I.woB I.c10 I.c11 I.c12 I.e13 I.s13) Q) := by
  intro Q
  simp only [k0_part9_eq_skeleton]; unfold k0_part9_skel
  simp only [semSignalWord, semWaitWord, Prog.lift, Prog.bind_op, Prog.bind_ret, Prog.pure_eq_ret, Prog.bind_assoc, wp_deviceId]
  iintro ⟨#HE, HV, ⟨%f, HP⟩, HR⟩ Hk
  iapply (wp_load 𝒱₀ (c : Thread nD τ) none Set.univ (m := Memref.whole cc0_stg3_0) (Finset.subset_univ _)) $$ HV; iintro HV
  rw [read_v]
  iapply (wp_load_rect 𝒱₀ (c : Thread nD τ) none Set.univ (m := sndM) (r := Rect.unit (s := S512x512) ![256, 0] S256x512.size inb_S512x512_S256x512_256_0) (access_high (by decide))) $$ HP; iintro HP
  iapply (wp_store 𝒱₀ (c : Thread nD τ) none Set.univ (m := sndM) (r := Rect.unit (s := S512x512) ![256, 0] S256x512.size inb_S512x512_S256x512_256_0) (Mk := Finset.univ) (access_high (by decide))) $$ HP; iintro HP
  ihave H := (high_split c _ (A c) fun i hi => (write_half 1 (by decide) _ _ i hi).trans (by
    rw [hA]; unfold Inp.partial; rw [if_neg (by rw [hi]; decide)]; rfl)) $$ HP
  icases H with ⟨H4, H5, H6, H7⟩
  iapply (wp_send A c 4 (cond5 c) (fun _ => rfl) (fun _ => sem_rsS 4 (by decide)) (fun _ => sem_rsR c (off9 c))
    (fun _ => segM_eq sndM 4 (by decide)) (fun _ => segM_eq rsM c (off10 c))) $$ [HR H4]
  · isplitr; · iexact HE
    isplitl [HR]; · iexact HR
    iexact H4
  iintro ⟨HR, H4⟩
  iapply (wp_send A c 5 (cond6 c) (fun _ => rfl) (fun _ => sem_rsS 5 (by decide)) (fun _ => sem_rsR c (off11 c))
    (fun _ => segM_eq sndM 5 (by decide)) (fun _ => segM_eq rsM c (off12 c))) $$ [HR H5]
  · isplitr; · iexact HE
    isplitl [HR]; · iexact HR
    iexact H5
  iintro ⟨HR, H5⟩
  iapply (wp_send A c 6 (cond7 c) (fun _ => rfl) (fun _ => sem_rsS 6 (by decide)) (fun _ => sem_rsR c (off13 c))
    (fun _ => segM_eq sndM 6 (by decide)) (fun _ => segM_eq rsM c (off14 c))) $$ [HR H6]
  · isplitr; · iexact HE
    isplitl [HR]; · iexact HR
    iexact H6
  iintro ⟨HR, H6⟩
  rw [wp_ret]; imodintro
  iapply Hk
  isplitl [HV]; · iexact HV
  isplitl [HR]; · iexact HR
  isplitl [H4]; · iexact H4
  isplitl [H5]; · iexact H5
  isplitl [H6]; · iexact H6
  iexact H7

/-- What is kept of the partial product is the device's own segment. -/
theorem kept : (iprop(keep A c 0 ∗ keep A c 1 ∗ keep A c 2 ∗ keep A c 3 ∗ keep A c 4 ∗ keep A c 5 ∗ keep A c 6 ∗ keep A c 7) : sProp 𝕄)
    ⊢ sndP c c fullShare (A c) := by
  rw [← eight (fun t => keep A c t)]
  refine (take_one (Finset.mem_univ c) (fun t => keep A c t)).trans ?_
  unfold keep; rw [if_pos rfl]

/-- What the waits for the others' segments take. -/
def rsWaits : sProp 𝕄 := bigSep (others c) fun s => iprop(cred (tallyAt (rsRC c s) () N) ∗ atPos ER (rsRC c s) 0 ∅ 0)
def agWaits : sProp 𝕄 := bigSep (others c) fun s => iprop(cred (tallyAt (agRC c s) () N) ∗ atPos ER (agRC c s) 0 ∅ 0)

theorem run10 (v2 : BitVec 32) (b : BitVec 1) : ∀ Q, iprop(env A c ∗ rsState c (fromN c 7) ∗ (keep A c 0 ∗ keep A c 1 ∗ keep A c 2 ∗ keep A c 3)
      ∗ (keep A c 4 ∗ keep A c 5 ∗ keep A c 6 ∗ sndP c 7 fullShare (A c)) ∗ (∃ f, rsP c c fullShare f) ∗ rsWaits c)
    ⊢ iprop((∀ w, (bigSep (others c) (rsDone c) ∗ sndP c c fullShare (A c) ∗ rsP c c fullShare (rsC A c) ∗ rsWaitState A c (upTo c 2)) -∗ Q w)
      -∗ wp frame (wpE (defs₀ (F := F)) 𝒱₀ c none) Set.univ (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 b) Q) := by
  intro Q
  simp only [k0_part10_eq_skeleton]; unfold k0_part10_skel
  simp only [semSignalWord, semWaitWord, Prog.lift, Prog.bind_op, Prog.bind_ret, Prog.pure_eq_ret, Prog.bind_assoc, wp_deviceId]
  iintro ⟨#HE, HR, ⟨H0, H1, H2, H3⟩, ⟨H4, H5, H6, H7⟩, ⟨%f, Hrs⟩, Hw⟩ Hk
  iapply (wp_send A c 7 (cond8 c) (fun _ => rfl) (fun _ => sem_rsS 7 (by decide)) (fun _ => sem_rsR c (off15 c))
    (fun _ => segM_eq sndM 7 (by decide)) (fun _ => segM_eq rsM c (off16 c))) $$ [HR H7]
  · isplitr; · iexact HE
    isplitl [HR]; · iexact HR
    iexact H7
  iintro ⟨HR, H7⟩
  rw [show ((7 : Fin 8).val + 1) = 8 from rfl, fromN_end]
  unfold rsState
  rw [progress_end]
  icases HR with ⟨HO, Hd⟩
  ihave Hown := (kept A c) $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  ihave HW := (show (iprop(owesX c (Orem c ∅ ∅ (others c)) ∗ rsWaits c) : sProp 𝕄) ⊢ rsWaitState A c (upTo c 0) by
    unfold rsWaitState rsWaits; rw [upTo_zero, progress_start]) $$ [HO Hw]
  · isplitl [HO]; · iexact HO
    iexact Hw
  unfold sndP rsP
  iapply (wp_load_rect 𝒱₀ (c : Thread nD τ) none Set.univ (m := sndM) (r := Rect.unit (s := S512x512) (k0_off17 c) S64x512.size (k0_off17_inb c)) (access_seg sndM c (off17 c))) $$ Hown; iintro Hown
  iapply (wp_load_rect 𝒱₀ (c : Thread nD τ) none Set.univ (m := rsM) (r := Rect.unit (s := S512x512) (k0_off17 c) S64x512.size (k0_off17_inb c)) (access_seg rsM c (off17 c))) $$ Hrs; iintro Hrs
  iapply (wp_store 𝒱₀ (c : Thread nD τ) none Set.univ (m := rsM) (r := Rect.unit (s := S512x512) (k0_off17 c) S64x512.size (k0_off17_inb c)) (Mk := Finset.univ) (access_seg rsM c (off17 c))) $$ Hrs; iintro Hrs
  ihave Hrs := (Entails.of_eq (own_rs A c (off17 c) f)) $$ [Hrs]
  · unfold rsP; iexact Hrs
  iapply (wp_rsw A c 0 (sem_rsR (c + (0 : Fin 7).succ) (off18 c |>.1)) (credit_rs)) $$ [HW]
  · isplitr; · iexact HE
    iexact HW
  iintro HW
  iapply (wp_rsw A c 1 (sem_rsR (c + (1 : Fin 7).succ) (off18 c |>.2.1)) (credit_rs)) $$ [HW]
  · isplitr; · iexact HE
    iexact HW
  iintro HW
  rw [wp_ret]; imodintro
  iapply Hk
  isplitl [Hd]; · iexact Hd
  isplitl [Hown]; · iexact Hown
  isplitl [Hrs]; · unfold rsP; iexact Hrs
  iexact HW

theorem run11 (v2 v3 : BitVec 32) : ∀ Q, iprop(env A c ∗ rsWaitState A c (upTo c 2))
    ⊢ iprop((∀ w, rsWaitState A c (upTo c 5) -∗ Q w) -∗ wp frame (wpE (defs₀ (F := F)) 𝒱₀ c none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3) Q) := by
  intro Q
  simp only [k0_part11_eq_skeleton]; unfold k0_part11_skel
  simp only [semSignalWord, semWaitWord, Prog.lift, Prog.bind_op, Prog.bind_ret, Prog.pure_eq_ret, Prog.bind_assoc, wp_deviceId]
  iintro ⟨#HE, HW⟩ Hk
  iapply (wp_rsw A c 2 (sem_rsR (c + (2 : Fin 7).succ) (off18 c |>.2.2.1)) (credit_rs)) $$ [HW]
  · isplitr; · iexact HE
    iexact HW
  iintro HW
  iapply (wp_rsw A c 3 (sem_rsR (c + (3 : Fin 7).succ) (off18 c |>.2.2.2.1)) (credit_rs)) $$ [HW]
  · isplitr; · iexact HE
    iexact HW
  iintro HW
  iapply (wp_rsw A c 4 (sem_rsR (c + (4 : Fin 7).succ) (off18 c |>.2.2.2.2.1)) (credit_rs)) $$ [HW]
  · isplitr; · iexact HE
    iexact HW
  iintro HW
  rw [wp_ret]; imodintro
  iapply Hk; iexact HW

/-- The eight landed segments are the whole buffer. -/
theorem rs_whole : (iprop(rsP c c fullShare (rsC A c) ∗ rsWaitState A c (upTo c 7)) : sProp 𝕄)
    ⊢ iprop(owesX c (Orem c ∅ ∅ (others c)) ∗ bigSep (others c) (fun s => fin A (rsRC c s)) ∗ (((c : Thread nD τ).loc cc0_scratch1) ↦{fullShare} rsC A c)) := by
  unfold rsWaitState
  rw [upTo_end, progress_end, rs_split, take_eq (Finset.mem_univ c) (fun s => rsP c s fullShare (rsC A c))]
  iintro ⟨Hr, HO, H⟩
  ihave H := (unzip (others c) (fun s => fin A (rsRC c s)) (fun s => rsP c s fullShare (rsC A c))) $$ H
  icases H with ⟨H1, H2⟩
  isplitl [HO]; · iexact HO
  isplitl [H1]; · iexact H1
  isplitl [Hr]; · iexact Hr
  iexact H2

theorem run12 (v2 v3 : BitVec 32) : ∀ Q, iprop(env A c ∗ rsP c c fullShare (rsC A c) ∗ rsWaitState A c (upTo c 5) ∗ (∃ f, agP c c fullShare f))
    ⊢ iprop((∀ w, (owesX c (Orem c ∅ ∅ (others c)) ∗ bigSep (others c) (fun s => fin A (rsRC c s)) ∗ (((c : Thread nD τ).loc cc0_scratch1) ↦{fullShare} rsC A c)
        ∗ agP c c fullShare (agC A)) -∗ Q w) -∗ wp frame (wpE (defs₀ (F := F)) 𝒱₀ c none) Set.univ (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3) Q) := by
  intro Q
  simp only [k0_part12_eq_skeleton]; unfold k0_part12_skel
  simp only [semSignalWord, semWaitWord, Prog.lift, Prog.bind_op, Prog.bind_ret, Prog.pure_eq_ret, Prog.bind_assoc, wp_deviceId]
  iintro ⟨#HE, Hrs, HW, ⟨%f, Hag⟩⟩ Hk
  iapply (wp_rsw A c 5 (sem_rsR (c + (5 : Fin 7).succ) (off18 c |>.2.2.2.2.2.1)) (credit_rs)) $$ [HW]
  · isplitr; · iexact HE
    iexact HW
  iintro HW
  iapply (wp_rsw A c 6 (sem_rsR (c + (6 : Fin 7).succ) (off18 c |>.2.2.2.2.2.2)) (credit_rs)) $$ [HW]
  · isplitr; · iexact HE
    iexact HW
  iintro HW
  ihave H := (rs_whole A c) $$ [Hrs HW]
  · isplitl [Hrs]; · iexact Hrs
    iexact HW
  icases H with ⟨HO, Hf, Hrs⟩
  iapply (wp_load 𝒱₀ (c : Thread nD τ) none Set.univ (m := rsM) (Finset.subset_univ _)) $$ Hrs; iintro Hrs
  rw [read_rs]
  unfold agP
  iapply (wp_load_rect 𝒱₀ (c : Thread nD τ) none Set.univ (m := agM) (r := Rect.unit (s := S512x512) (k0_off17 c) S64x512.size (k0_off17_inb c)) (access_seg agM c (off17 c))) $$ Hag; iintro Hag
  iapply (wp_store 𝒱₀ (c : Thread nD τ) none Set.univ (m := agM) (r := Rect.unit (s := S512x512) (k0_off17 c) S64x512.size (k0_off17_inb c)) (Mk := Finset.univ) (access_seg agM c (off17 c))) $$ Hag; iintro Hag
  ihave Hag := (Entails.of_eq (own_ag A c (off17 c) f)) $$ [Hag]
  · unfold agP; iexact Hag
  rw [wp_ret]; imodintro
  iapply Hk
  isplitl [HO]; · iexact HO
  isplitl [Hf]; · iexact Hf
  isplitl [Hrs]; · iexact Hrs
  unfold agP; iexact Hag

end Parts

end Cert.KernelIdeal.Exchange
-- ==== Proof.BodyC.lean ====
/-
The exchange of the sums, the result, and the waits that give the buffers back.
-/
module

public import proofs.«01_k».proof.Proof.BodyB

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Parts

variable (A : Dev nD → Vec F S512x512 .bf16) (c : Dev nD) (I : Inp F)

theorem seven (Φ : Fin 7 → sProp 𝕄) : bigSep Finset.univ Φ = iprop(Φ 0 ∗ Φ 1 ∗ Φ 2 ∗ Φ 3 ∗ Φ 4 ∗ Φ 5 ∗ Φ 6) := by
  rw [take_eq (Finset.mem_univ 0), take_eq (i := 1) (by decide), take_eq (i := 2) (by decide), take_eq (i := 3) (by decide), take_eq (i := 4) (by decide),
    take_eq (i := 5) (by decide),
    show (((((((Finset.univ : Finset (Fin 7)).erase 0).erase 1).erase 2).erase 3).erase 4).erase 5) = {6} by decide, bigSep_singleton]

/-- A segment at the full share is the share a device keeps and the seven that its copies read. -/
theorem ag_leaves (s : Fin 8) (f : Vec F S512x512 .bf16) :
    (agP c s fullShare f : sProp 𝕄) = iprop(agP c s (leaf8 0) f ∗ bigSep Finset.univ fun j : Fin 7 => agP c s (leaf8 j.succ) f) := by
  have key : (agP c s fullShare f : sProp 𝕄) = bigSep Finset.univ fun j : Fin 8 => agP c s (leaf8 j) f :=
    ShareLeaves.pointsTo_leaves (Ix := Unit) (Name := ℕ) (U := UU) (Lvl := ℕ) (ℓ := (segM agM s).view.loc (c : Thread nD τ)) (segM agM s).view.set f 3 fullShare
  have h8 := eight (fun j => agP c s (leaf8 j) f)
  have h7 := seven (fun j : Fin 7 => agP c s (leaf8 j.succ) f)
  refine key.trans (h8.trans ?_)
  exact congrArg (fun X => iprop(agP c s (leaf8 0) f ∗ X)) h7.symm

/-- The tokens of the copies of the sum. -/
def agToks : sProp 𝕄 := bigSep (others c) fun t => (dutyTok ER (agRC t c) 0 0 : sProp 𝕄)
def agSToks : sProp 𝕄 := bigSep Finset.univ fun j : Fin 7 => (dutyTok ER (agSC c j) 0 0 : sProp 𝕄)

theorem zip_to {I : Type} [DecidableEq I] (s : Finset I) (Φ Ψ Θ : I → sProp 𝕄) (h : ∀ i ∈ s, iprop(Φ i ∗ Ψ i) ⊢ Θ i) :
    (iprop(bigSep s Φ ∗ bigSep s Ψ) : sProp 𝕄) ⊢ bigSep s Θ :=
  (Entails.of_eq (bigSep_sep s Φ Ψ).symm).trans (bigSep_mono h)

theorem to_agState : (iprop(owesX c (Orem c ∅ ∅ (others c)) ∗ agRight c ∗ agToks c ∗ agSToks c ∗ agP c c fullShare (agC A)) : sProp 𝕄)
    ⊢ iprop(agState A c (upTo c 0) (from7 0) ∗ agP c c (leaf8 0) (agC A)) := by
  unfold agState agRight agToks agSToks
  rw [upTo_zero, from7_zero, progress_start, progress_start, ag_leaves]
  iintro ⟨HO, Hr, Ht, Hs, H0, Hl⟩
  isplitr [H0]
  · isplitl [HO]; · iexact HO
    isplitl [Hr Ht]
    · iapply (zip_to (others c) (fun t => (dutyTok ER (agRC t c) 0 0 : sProp 𝕄)) (fun t => iprop((∃ f, agP (F := F) t c fullShare f) ∗ reached ER (agRC t c) 0)) (agTodo (F := F) c)
        fun t _ => by unfold agTodo; exact BI.Entails.refl _)
      isplitl [Ht]; · iexact Ht
      iexact Hr
    iapply (zip_to Finset.univ (fun j : Fin 7 => (dutyTok ER (agSC c j) 0 0 : sProp 𝕄)) (fun j : Fin 7 => agP c c (leaf8 j.succ) (agC A)) (agPiece A c)
        fun t _ => by unfold agPiece; exact BI.Entails.refl _)
    isplitl [Hs]; · iexact Hs
    iexact Hl
  iexact H0

theorem run13 (v2 v3 : BitVec 32) : ∀ Q, iprop(env A c ∗ agState A c (upTo c 0) (from7 0))
    ⊢ iprop((agState A c (upTo c 3) (from7 3) -∗ Q ⟨⟩) -∗ wp frame (wpE (defs₀ (F := F)) 𝒱₀ c none) Set.univ (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3) Q) := by
  intro Q
  simp only [k0_part13_eq_skeleton]; unfold k0_part13_skel
  simp only [semSignalWord, semWaitWord, Prog.lift, Prog.bind_op, Prog.bind_ret, Prog.pure_eq_ret, Prog.bind_assoc, wp_deviceId]
  iintro ⟨#HE, HG⟩ Hk
  iapply (wp_share A c 0 (dev16 c) (sem_agS 0 (by decide)) (sem_agR c (off20 c)) (segM_eq agM c (off21 c)) (segM_eq agM c (off21 c))) $$ [HG]
  · isplitr; · iexact HE
    iexact HG
  iintro HG
  iapply (wp_share A c 1 (dev17 c) (sem_agS 1 (by decide)) (sem_agR c (off20 c)) (segM_eq agM c (off21 c)) (segM_eq agM c (off21 c))) $$ [HG]
  · isplitr; · iexact HE
    iexact HG
  iintro HG
  iapply (wp_share A c 2 (dev18 c) (sem_agS 2 (by decide)) (sem_agR c (off20 c)) (segM_eq agM c (off21 c)) (segM_eq agM c (off21 c))) $$ [HG]
  · isplitr; · iexact HE
    iexact HG
  iintro HG
  rw [wp_ret]; imodintro
  iapply Hk; iexact HG

theorem run14 (v2 : BitVec 32) : ∀ Q, iprop(env A c ∗ agState A c (upTo c 3) (from7 3))
    ⊢ iprop((agState A c (upTo c 5) (from7 5) -∗ Q ⟨⟩) -∗ wp frame (wpE (defs₀ (F := F)) 𝒱₀ c none) Set.univ (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  intro Q
  simp only [k0_part14_eq_skeleton]; unfold k0_part14_skel
  simp only [semSignalWord, semWaitWord, Prog.lift, Prog.bind_op, Prog.bind_ret, Prog.pure_eq_ret, Prog.bind_assoc, wp_deviceId]
  iintro ⟨#HE, HG⟩ Hk
  iapply (wp_share A c 3 (dev19 c) (sem_agS 3 (by decide)) (sem_agR c (off20 c)) (segM_eq agM c (off21 c)) (segM_eq agM c (off21 c))) $$ [HG]
  · isplitr; · iexact HE
    iexact HG
  iintro HG
  iapply (wp_share A c 4 (dev20 c) (sem_agS 4 (by decide)) (sem_agR c (off20 c)) (segM_eq agM c (off21 c)) (segM_eq agM c (off21 c))) $$ [HG]
  · isplitr; · iexact HE
    iexact HG
  iintro HG
  rw [wp_ret]; imodintro
  iapply Hk; iexact HG

theorem run15 (v2 : BitVec 32) : ∀ Q, iprop(env A c ∗ agState A c (upTo c 5) (from7 5) ∗ agWaits c)
    ⊢ iprop((∀ w w', (agWaitState A c (upTo c 1) ∗ bigSep Finset.univ (agDone c)) -∗ Q ⟨w, w'⟩) -∗ wp frame (wpE (defs₀ (F := F)) 𝒱₀ c none) Set.univ (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q) := by
  intro Q
  simp only [k0_part15_eq_skeleton]; unfold k0_part15_skel
  simp only [semSignalWord, semWaitWord, Prog.lift, Prog.bind_op, Prog.bind_ret, Prog.pure_eq_ret, Prog.bind_assoc, wp_deviceId]
  iintro ⟨#HE, HG, Hw⟩ Hk
  iapply (wp_share A c 5 (dev21 c) (sem_agS 5 (by decide)) (sem_agR c (off20 c)) (segM_eq agM c (off21 c)) (segM_eq agM c (off21 c))) $$ [HG]
  · isplitr; · iexact HE
    iexact HG
  iintro HG
  iapply (wp_share A c 6 (dev22 c) (sem_agS 6 (by decide)) (sem_agR c (off20 c)) (segM_eq agM c (off21 c)) (segM_eq agM c (off21 c))) $$ [HG]
  · isplitr; · iexact HE
    iexact HG
  iintro HG
  ihave HG := (show agState A c (upTo c ((6 : Fin 7).val + 1)) (from7 ((6 : Fin 7).val + 1)) ⊢ (iprop(owesX c (Orem c ∅ ∅ ∅) ∗ bigSep Finset.univ (agDone c)) : sProp 𝕄) by
    unfold agState
    rw [show ((6 : Fin 7).val + 1) = 7 from rfl, upTo_end, from7_end, progress_end, progress_end]
    iintro ⟨H1, -, H2⟩
    isplitl [H1]; · iexact H1
    iexact H2) $$ HG
  icases HG with ⟨HO, Hd⟩
  ihave HW := (show (iprop(owesX c (Orem c ∅ ∅ ∅) ∗ agWaits c) : sProp 𝕄) ⊢ agWaitState A c (upTo c 0) by
    unfold agWaitState agWaits; rw [upTo_zero, progress_start]) $$ [HO Hw]
  · isplitl [HO]; · iexact HO
    iexact Hw
  iapply (wp_agw A c 0 (sem_agR (c + (0 : Fin 7).succ) (off18 c |>.1)) (credit_ag)) $$ [HW]
  · isplitr; · iexact HE
    iexact HW
  iintro HW
  rw [wp_ret]; imodintro
  iapply Hk
  isplitl [HW]; · iexact HW
  iexact Hd

theorem run16 (v2 v3 v4 : BitVec 32) : ∀ Q, iprop(env A c ∗ agWaitState A c (upTo c 1))
    ⊢ iprop((∀ w w', agWaitState A c (upTo c 4) -∗ Q ⟨w, w'⟩) -∗ wp frame (wpE (defs₀ (F := F)) 𝒱₀ c none) Set.univ (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3 v4) Q) := by
  intro Q
  simp only [k0_part16_eq_skeleton]; unfold k0_part16_skel
  simp only [semSignalWord, semWaitWord, Prog.lift, Prog.bind_op, Prog.bind_ret, Prog.pure_eq_ret, Prog.bind_assoc, wp_deviceId]
  iintro ⟨#HE, HW⟩ Hk
  iapply (wp_agw A c 1 (sem_agR (c + (1 : Fin 7).succ) (off18 c |>.2.1)) (credit_ag)) $$ [HW]
  · isplitr; · iexact HE
    iexact HW
  iintro HW
  iapply (wp_agw A c 2 (sem_agR (c + (2 : Fin 7).succ) (off18 c |>.2.2.1)) (credit_ag)) $$ [HW]
  · isplitr; · iexact HE
    iexact HW
  iintro HW
  iapply (wp_agw A c 3 (sem_agR (c + (3 : Fin 7).succ) (off18 c |>.2.2.2.1)) (credit_ag)) $$ [HW]
  · isplitr; · iexact HE
    iexact HW
  iintro HW
  rw [wp_ret]; imodintro
  iapply Hk; iexact HW

/-- The gathering buffer at the share a device keeps, and what is left of the other segments. -/
theorem ag_open : (iprop(agP c c (leaf8 0) (agC A) ∗ bigSep (others c) fun s => agP c s fullShare (agC A)) : sProp 𝕄)
    = iprop((((c : Thread nD τ).loc cc0_scratch2) ↦{leaf8 0} agC A) ∗ bigSep (others c) fun s => bigSep Finset.univ fun j : Fin 7 => agP c s (leaf8 j.succ) (agC A)) := by
  rw [ag_split, take_eq (Finset.mem_univ c) (fun s => agP c s (leaf8 0) (agC A)), bigSep_congr (s := others c) (fun s _ => ag_leaves c s (agC A))]
  have := bigSep_sep (others c) (fun s => agP c s (leaf8 0) (agC A)) (fun s => bigSep Finset.univ fun j : Fin 7 => agP c s (leaf8 j.succ) (agC A))
  have h2 : (bigSep (others c) fun s => iprop(agP c s (leaf8 0) (agC A) ∗ bigSep Finset.univ fun j : Fin 7 => agP c s (leaf8 j.succ) (agC A)))
      = iprop((bigSep (others c) fun s => agP c s (leaf8 0) (agC A)) ∗ bigSep (others c) fun s => bigSep Finset.univ fun j : Fin 7 => agP c s (leaf8 j.succ) (agC A)) := this
  rw [h2]
  exact BI.Entails.antisymm sep_assoc' sep_assoc

/-- The result. -/
def outC : Vec F S2x256x512 .bf16 := k0_pay26 (agC A)

theorem read_ag (f : Vec F S512x512 .bf16) :
    (Memref.whole cc0_scratch2).view.readAt (Elt F) (Rect.unit (s := S512x512) ![0, 0] S512x512.size inb_S512x512_S512x512_0_0).toLoadRect f = f :=
  Memref.readAt_unit_zero (Elt F) cc0_scratch2 hz2 _ _
theorem write_out (f w : Vec F S2x256x512 .bf16) :
    ((Memref.whole cc0_stg5_0).access (Rect.unit (s := S2x256x512) ![0, 0, 0] S2x256x512.size inb_S2x256x512_S2x256x512_0_0_0)).write (Elt F) f w Finset.univ = w :=
  Memref.write_access_unit_zero_univ (Elt F) cc0_stg5_0 hz3 _ f w

/-- After the waits: the sums of the others have landed. -/
theorem ag_landed : agWaitState A c (upTo c 7) ⊢ (iprop(owesX c (Orem c ∅ ∅ ∅) ∗ bigSep (others c) (fun s => fin A (agRC c s)) ∗ bigSep (others c) fun s => agP c s fullShare (agC A)) : sProp 𝕄) := by
  unfold agWaitState
  rw [upTo_end, progress_end]
  iintro ⟨HO, H⟩
  ihave H := (unzip (others c) (fun s => fin A (agRC c s)) (fun s => agP c s fullShare (agC A))) $$ H
  icases H with ⟨H1, H2⟩
  isplitl [HO]; · iexact HO
  isplitl [H1]; · iexact H1
  iexact H2

theorem run17 (v2 v3 v4 : BitVec 32) : ∀ Q, iprop(env A c ∗ agWaitState A c (upTo c 4) ∗ agP c c (leaf8 0) (agC A) ∗ (∃ f, (((c : Thread nD τ).loc cc0_stg5_0) ↦{fullShare} f)))
    ⊢ iprop((∀ w, (owesX c (Orem c ∅ ∅ ∅) ∗ bigSep (others c) (fun s => fin A (agRC c s)) ∗ agP c c (leaf8 0) (agC A) ∗ bigSep (others c) (fun s => agP c s fullShare (agC A))
        ∗ (((c : Thread nD τ).loc cc0_stg5_0) ↦{fullShare} outC A)) -∗ Q w) -∗ wp frame (wpE (defs₀ (F := F)) 𝒱₀ c none) Set.univ (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3 v4) Q) := by
  intro Q
  simp only [k0_part17_eq_skeleton]; unfold k0_part17_skel
  simp only [semSignalWord, semWaitWord, Prog.lift, Prog.bind_op, Prog.bind_ret, Prog.pure_eq_ret, Prog.bind_assoc, wp_deviceId]
  iintro ⟨#HE, HW, H0, ⟨%f, Hout⟩⟩ Hk
  iapply (wp_agw A c 4 (sem_agR (c + (4 : Fin 7).succ) (off18 c |>.2.2.2.2.1)) (credit_ag)) $$ [HW]
  · isplitr; · iexact HE
    iexact HW
  iintro HW
  iapply (wp_agw A c 5 (sem_agR (c + (5 : Fin 7).succ) (off18 c |>.2.2.2.2.2.1)) (credit_ag)) $$ [HW]
  · isplitr; · iexact HE
    iexact HW
  iintro HW
  iapply (wp_agw A c 6 (sem_agR (c + (6 : Fin 7).succ) (off18 c |>.2.2.2.2.2.2)) (credit_ag)) $$ [HW]
  · isplitr; · iexact HE
    iexact HW
  iintro HW
  ihave H := (ag_landed A c) $$ [HW]
  · iexact HW
  icases H with ⟨HO, Hf, Hag⟩
  ihave H := (Entails.of_eq (ag_open A c)) $$ [H0 Hag]
  · isplitl [H0]; · iexact H0
    iexact Hag
  icases H with ⟨Hw, Hl⟩
  iapply (wp_load 𝒱₀ (c : Thread nD τ) none Set.univ (m := agM) (Finset.subset_univ _)) $$ Hw; iintro Hw
  rw [read_ag]
  ihave H := (Entails.of_eq (ag_open A c).symm) $$ [Hw Hl]
  · isplitl [Hw]; · iexact Hw
    iexact Hl
  icases H with ⟨H0, Hag⟩
  iapply (wp_load 𝒱₀ (c : Thread nD τ) none Set.univ (m := Memref.whole cc0_stg5_0) (Finset.subset_univ _)) $$ Hout; iintro Hout
  iapply (wp_store 𝒱₀ (c : Thread nD τ) none Set.univ (m := Memref.whole cc0_stg5_0) (r := Rect.unit (s := S2x256x512) ![0, 0, 0] S2x256x512.size inb_S2x256x512_S2x256x512_0_0_0) (Mk := Finset.univ) (Finset.subset_univ _)) $$ Hout; iintro Hout
  rw [write_out, wp_ret]; imodintro
  iapply Hk
  isplitl [HO]; · iexact HO
  isplitl [Hf]; · iexact Hf
  isplitl [H0]; · iexact H0
  isplitl [Hag]; · iexact Hag
  unfold outC; iexact Hout

theorem run18 (v2 v3 : BitVec 32) : ∀ Q, iprop(env A c ∗ rsBackState A c (fromN c 0))
    ⊢ iprop((rsBackState A c (fromN c 8) -∗ Q ⟨⟩) -∗ wp frame (wpE (defs₀ (F := F)) 𝒱₀ c none) Set.univ (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v3) Q) := by
  intro Q
  simp only [k0_part18_eq_skeleton]; unfold k0_part18_skel
  simp (config := {zeta := false}) only [Prog.lift, Prog.bind_op, Prog.bind_ret, Prog.pure_eq_ret, Prog.bind_assoc]
  iintro ⟨#HE, HB⟩ Hk
  iapply (wp_sent A c 0 (cond9 c) (fun _ => sem_rsS 0 (by decide)) (fun _ => credit_snd)) $$ [HB]
  · isplitr; · iexact HE
    iexact HB
  iintro HB
  iapply (wp_sent A c 1 (cond10 c) (fun _ => sem_rsS 1 (by decide)) (fun _ => credit_snd)) $$ [HB]
  · isplitr; · iexact HE
    iexact HB
  iintro HB
  iapply (wp_sent A c 2 (cond11 c) (fun _ => sem_rsS 2 (by decide)) (fun _ => credit_snd)) $$ [HB]
  · isplitr; · iexact HE
    iexact HB
  iintro HB
  iapply (wp_sent A c 3 (cond12 c) (fun _ => sem_rsS 3 (by decide)) (fun _ => credit_snd)) $$ [HB]
  · isplitr; · iexact HE
    iexact HB
  iintro HB
  iapply (wp_sent A c 4 (cond13 c) (fun _ => sem_rsS 4 (by decide)) (fun _ => credit_snd)) $$ [HB]
  · isplitr; · iexact HE
    iexact HB
  iintro HB
  iapply (wp_sent A c 5 (cond14 c) (fun _ => sem_rsS 5 (by decide)) (fun _ => credit_snd)) $$ [HB]
  · isplitr; · iexact HE
    iexact HB
  iintro HB
  iapply (wp_sent A c 6 (cond15 c) (fun _ => sem_rsS 6 (by decide)) (fun _ => credit_snd)) $$ [HB]
  · isplitr; · iexact HE
    iexact HB
  iintro HB
  iapply (wp_sent A c 7 (cond16 c) (fun _ => sem_rsS 7 (by decide)) (fun _ => credit_snd)) $$ [HB]
  · isplitr; · iexact HE
    iexact HB
  iintro HB
  rw [wp_ret]; imodintro
  iapply Hk; iexact HB

end Parts

end Cert.KernelIdeal.Exchange
-- ==== Proof.BodyD.lean ====
/-
The whole kernel on one device: the parts in order, from what a device holds at the start to what it holds at the end.
-/
module

public import proofs.«01_k».proof.Proof.BodyC

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Parts

variable (A : Dev nD → Vec F S512x512 .bf16) (c : Dev nD) (I : Inp F)

/-- The positions on the cells that say a copy has read its segment. -/
def rsBacks : sProp 𝕄 := bigSep (others c) fun t => (atPos ER (rsSC c t) 0 ∅ 0 : sProp 𝕄)
def agBacks : sProp 𝕄 := bigSep Finset.univ fun j : Fin 7 => (atPos ER (agSC c j) 0 ∅ 0 : sProp 𝕄)

theorem to_rsBack : (iprop(owesX c (Orem c ∅ ∅ ∅) ∗ bigSep (others c) (rsDone c) ∗ rsBacks c) : sProp 𝕄) ⊢ rsBackState A c (fromN c 0) := by
  unfold rsBackState rsBacks
  rw [fromN_zero, progress_start]
  iintro ⟨HO, H1, H2⟩
  isplitl [HO]; · iexact HO
  iapply (zip_to (others c) (rsDone c) (fun t => (atPos ER (rsSC c t) 0 ∅ 0 : sProp 𝕄)) (fun t => iprop(rsDone c t ∗ atPos ER (rsSC c t) 0 ∅ 0)) fun _ _ => BI.Entails.refl _)
  isplitl [H1]; · iexact H1
  iexact H2

/-- The partial product is back whole. -/
theorem from_rsBack : (iprop(rsBackState A c (fromN c 8) ∗ sndP c c fullShare (A c)) : sProp 𝕄)
    ⊢ iprop(owesX c (Orem c ∅ ∅ ∅) ∗ bigSep (others c) (fun t => fin A (rsSC c t)) ∗ (((c : Thread nD τ).loc cc0_scratch0) ↦{fullShare} A c)) := by
  unfold rsBackState
  rw [fromN_end, progress_end, snd_split, take_eq (Finset.mem_univ c)]
  iintro ⟨⟨HO, H⟩, Hc⟩
  ihave H := (unzip (others c) (fun t => fin A (rsSC c t)) (fun t => sndP c t fullShare (A c))) $$ H
  icases H with ⟨H1, H2⟩
  isplitl [HO]; · iexact HO
  isplitl [H1]; · iexact H1
  isplitl [Hc]; · iexact Hc
  iexact H2

theorem to_agBack : (iprop(owesX c (Orem c ∅ ∅ ∅) ∗ bigSep Finset.univ (agDone c) ∗ agBacks c) : sProp 𝕄) ⊢ agBackState A c (from7 0) := by
  unfold agBackState agBacks
  rw [from7_zero, progress_start]
  iintro ⟨HO, H1, H2⟩
  isplitl [HO]; · iexact HO
  iapply (zip_to Finset.univ (agDone c) (fun t => (atPos ER (agSC c t) 0 ∅ 0 : sProp 𝕄)) (fun t => iprop(agDone c t ∗ atPos ER (agSC c t) 0 ∅ 0)) fun _ _ => BI.Entails.refl _)
  isplitl [H1]; · iexact H1
  iexact H2

/-- The gathered sums are back whole. -/
theorem from_agBack : (iprop(agBackState A c (from7 7) ∗ agP c c (leaf8 0) (agC A) ∗ bigSep (others c) (fun s => agP c s fullShare (agC A))) : sProp 𝕄)
    ⊢ iprop(owesX c (Orem c ∅ ∅ ∅) ∗ bigSep Finset.univ (fun j => fin A (agSC c j)) ∗ (((c : Thread nD τ).loc cc0_scratch2) ↦{fullShare} agC A)) := by
  unfold agBackState
  rw [from7_end, progress_end, ag_split, take_eq (Finset.mem_univ c), ag_leaves]
  iintro ⟨⟨HO, H⟩, Hc, Ho⟩
  ihave H := (unzip Finset.univ (fun t => fin A (agSC c t)) (fun t => agP c c (leaf8 t.succ) (agC A))) $$ H
  icases H with ⟨H1, H2⟩
  isplitl [HO]; · iexact HO
  isplitl [H1]; · iexact H1
  isplitr [Ho]
  · isplitl [Hc]; · iexact Hc
    iexact H2
  iexact Ho

/-- The operands of the kernel. -/
def inputs : sProp 𝕄 :=
  iprop((((c : Thread nD τ).loc cc0_stg0_0) ↦{fullShare} I.x) ∗ (((c : Thread nD τ).loc cc0_stg1_0) ↦{fullShare} I.wq) ∗ (((c : Thread nD τ).loc cc0_stg2_0) ↦{fullShare} I.k)
    ∗ (((c : Thread nD τ).loc cc0_stg3_0) ↦{fullShare} I.v) ∗ (((c : Thread nD τ).loc cc0_stg4_0) ↦{fullShare} I.wo))

/-- What a device starts the exchange with. -/
def given : sProp 𝕄 :=
  iprop(sigState c (upTo c 0) ∗ (∃ f, (((c : Thread nD τ).loc cc0_scratch0) ↦{fullShare} f)) ∗ cred (tallyAt (barC c) () 7) ∗ atPos ER (barC c) 0 ∅ 0
    ∗ rsToks c ∗ (∃ f, rsP c c fullShare f) ∗ rsWaits c ∗ (∃ f, agP c c fullShare f) ∗ agToks c ∗ agSToks c ∗ agWaits c ∗ rsBacks c ∗ agBacks c)

/-- What it ends the exchange with. -/
def left : sProp 𝕄 :=
  iprop(owesX c 0 ∗ (∃ f, (((c : Thread nD τ).loc cc0_scratch0) ↦{fullShare} f)) ∗ (∃ f, (((c : Thread nD τ).loc cc0_scratch1) ↦{fullShare} f))
    ∗ (∃ f, (((c : Thread nD τ).loc cc0_scratch2) ↦{fullShare} f)) ∗ fin A (barC c) ∗ bigSep (others c) (fun t => fin A (rsSC c t)) ∗ bigSep (others c) (fun s => fin A (rsRC c s))
    ∗ bigSep Finset.univ (fun j : Fin 7 => fin A (agSC c j)) ∗ bigSep (others c) (fun s => fin A (agRC c s)))

/-- What stands before the last two waits. -/
def nearly : sProp 𝕄 :=
  iprop((((c : Thread nD τ).loc cc0_stg0_0) ↦{fullShare} I.x) ∗ (((c : Thread nD τ).loc cc0_stg1_0) ↦{fullShare} I.wq) ∗ (((c : Thread nD τ).loc cc0_stg2_0) ↦{fullShare} I.k)
    ∗ (((c : Thread nD τ).loc cc0_stg3_0) ↦{fullShare} I.v) ∗ (((c : Thread nD τ).loc cc0_stg4_0) ↦{fullShare} I.wo) ∗ (((c : Thread nD τ).loc cc0_stg5_0) ↦{fullShare} outC A)
    ∗ agBackState A c (from7 5) ∗ agP c c (leaf8 0) (agC A) ∗ bigSep (others c) (fun s => agP c s fullShare (agC A))
    ∗ (((c : Thread nD τ).loc cc0_scratch0) ↦{fullShare} A c) ∗ (((c : Thread nD τ).loc cc0_scratch1) ↦{fullShare} rsC A c)
    ∗ fin A (barC c) ∗ bigSep (others c) (fun t => fin A (rsSC c t)) ∗ bigSep (others c) (fun s => fin A (rsRC c s)) ∗ bigSep (others c) (fun s => fin A (agRC c s)))

theorem run19 (hA : A c = I.partial) : ∀ Q, (iprop(env A c ∗ inputs c I ∗ (∃ f, (((c : Thread nD τ).loc cc0_stg5_0) ↦{fullShare} f)) ∗ given c) : sProp 𝕄)
    ⊢ iprop((nearly A c I -∗ Q c) -∗ wp frame (wpE (defs₀ (F := F)) 𝒱₀ c none) Set.univ (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  intro Q
  simp only [k0_part19_eq_skeleton]; unfold k0_part19_skel
  unfold inputs given nearly
  iintro ⟨#HE, ⟨Hx, Hwq, Hk, Hv, Hwo⟩, Hout, ⟨HS, Hb0, HcB, HaB, HrsT, Hrsc, HrsW, Hagc, HagT, HagS, HagW, HrsB, HagB⟩⟩ Hdone2
  rw [wp_bind]
  iapply (run1 A c _) $$ [HS]
  · isplitr; · iexact HE
    iexact HS
  iintro %v2 %v24 HS
  try dsimp only
  rw [wp_bind]
  iapply (run2 A c I v2 v24 8#32 _) $$ [HS Hx Hwq Hwo]
  · isplitr; · iexact HE
    isplitl [HS]; · iexact HS
    isplitl [Hx]; · iexact Hx
    isplitl [Hwq]; · iexact Hwq
    iexact Hwo
  iintro ⟨HS, Hx, Hwq, Hwo⟩
  try dsimp only
  rw [wp_bind]
  iapply (run3 c I _) $$ [Hk]
  · iexact Hk
  iintro Hk
  try dsimp only
  rw [wp_bind]
  iapply (run4 c I _) $$ [Hk Hv]
  · isplitl [Hk]; · iexact Hk
    iexact Hv
  iintro ⟨Hk, Hv⟩
  try dsimp only
  rw [wp_bind]
  iapply (run5 c I _) $$ [Hk Hv]
  · isplitl [Hk]; · iexact Hk
    iexact Hv
  iintro ⟨Hk, Hv⟩
  try dsimp only
  rw [wp_bind]
  iapply (run6 A c I hA v2 _) $$ [Hv Hb0 HS HcB HaB HrsT]
  · isplitr; · iexact HE
    isplitl [Hv]; · iexact Hv
    isplitl [Hb0]; · iexact Hb0
    isplitl [HS]; · iexact HS
    isplitl [HcB]; · iexact HcB
    isplitl [HaB]; · iexact HaB
    iexact HrsT
  iintro ⟨Hv, HR, Hkeep, Hb0, Hright, HfB⟩
  try dsimp only
  rw [wp_bind]
  iapply (run7 c I _) $$ [Hk Hv]
  · isplitl [Hk]; · iexact Hk
    iexact Hv
  iintro ⟨Hk, Hv⟩
  try dsimp only
  rw [wp_bind]
  iapply (run8 c I _) $$ [Hk Hv]
  · isplitl [Hk]; · iexact Hk
    iexact Hv
  iintro ⟨Hk, Hv⟩
  try dsimp only
  rw [wp_bind]
  iapply (run9 A c I hA v2 _) $$ [Hv Hb0 HR]
  · isplitr; · iexact HE
    isplitl [Hv]; · iexact Hv
    isplitl [Hb0]; · iexact Hb0
    iexact HR
  iintro %w9 ⟨Hv, HR, Hkeep2⟩
  try dsimp only
  rw [wp_bind]
  iapply (run10 A c v2 w9 _) $$ [HR Hkeep Hkeep2 Hrsc HrsW]
  · isplitr; · iexact HE
    isplitl [HR]; · iexact HR
    isplitl [Hkeep]; · iexact Hkeep
    isplitl [Hkeep2]; · iexact Hkeep2
    isplitl [Hrsc]; · iexact Hrsc
    iexact HrsW
  iintro %w10 ⟨Hdone, Hsnd, Hrsc, HW⟩
  try dsimp only
  rw [wp_bind]
  iapply (run11 A c v2 w10 _) $$ [HW]
  · isplitr; · iexact HE
    iexact HW
  iintro %w11 HW
  try dsimp only
  rw [wp_bind]
  iapply (run12 A c v2 w11 _) $$ [Hrsc HW Hagc]
  · isplitr; · iexact HE
    isplitl [Hrsc]; · iexact Hrsc
    isplitl [HW]; · iexact HW
    iexact Hagc
  iintro %w12 ⟨HO, HfR, Hb1, Hagc⟩
  try dsimp only
  ihave HG := (to_agState A c) $$ [HO Hright HagT HagS Hagc]
  · isplitl [HO]; · iexact HO
    isplitl [Hright]; · iexact Hright
    isplitl [HagT]; · iexact HagT
    isplitl [HagS]; · iexact HagS
    iexact Hagc
  icases HG with ⟨HG, Hagc⟩
  rw [wp_bind]
  iapply (run13 A c v2 w12 _) $$ [HG]
  · isplitr; · iexact HE
    iexact HG
  iintro HG
  try dsimp only
  rw [wp_bind]
  iapply (run14 A c v2 _) $$ [HG]
  · isplitr; · iexact HE
    iexact HG
  iintro HG
  try dsimp only
  rw [wp_bind]
  iapply (run15 A c v2 _) $$ [HG HagW]
  · isplitr; · iexact HE
    isplitl [HG]; · iexact HG
    iexact HagW
  iintro %w15 %w15b ⟨HW, Hagd⟩
  try dsimp only
  rw [wp_bind]
  iapply (run16 A c v2 w15 w15b _) $$ [HW]
  · isplitr; · iexact HE
    iexact HW
  iintro %w16 %w16b HW
  try dsimp only
  rw [wp_bind]
  iapply (run17 A c v2 w16 w16b _) $$ [HW Hagc Hout]
  · isplitr; · iexact HE
    isplitl [HW]; · iexact HW
    isplitl [Hagc]; · iexact Hagc
    iexact Hout
  iintro %w17 ⟨HO, HfG, Hagc, Hago, Hout⟩
  try dsimp only
  ihave HB := (to_rsBack A c) $$ [HO Hdone HrsB]
  · isplitl [HO]; · iexact HO
    isplitl [Hdone]; · iexact Hdone
    iexact HrsB
  rw [wp_bind]
  iapply (run18 A c v2 w17 _) $$ [HB]
  · isplitr; · iexact HE
    iexact HB
  iintro HB
  try dsimp only
  ihave HB := (from_rsBack A c) $$ [HB Hsnd]
  · isplitl [HB]; · iexact HB
    iexact Hsnd
  icases HB with ⟨HO, HfS, Hb0⟩
  ihave HB := (to_agBack A c) $$ [HO Hagd HagB]
  · isplitl [HO]; · iexact HO
    isplitl [Hagd]; · iexact Hagd
    iexact HagB
  simp only [Prog.lift, Prog.bind_op, Prog.bind_ret, Prog.pure_eq_ret, Prog.bind_assoc]
  iapply (wp_shared A c 0 (sem_agS 0 (by decide)) (credit_ag)) $$ [HB]
  · isplitr; · iexact HE
    iexact HB
  iintro HB
  iapply (wp_shared A c 1 (sem_agS 1 (by decide)) (credit_ag)) $$ [HB]
  · isplitr; · iexact HE
    iexact HB
  iintro HB
  iapply (wp_shared A c 2 (sem_agS 2 (by decide)) (credit_ag)) $$ [HB]
  · isplitr; · iexact HE
    iexact HB
  iintro HB
  iapply (wp_shared A c 3 (sem_agS 3 (by decide)) (credit_ag)) $$ [HB]
  · isplitr; · iexact HE
    iexact HB
  iintro HB
  iapply (wp_shared A c 4 (sem_agS 4 (by decide)) (credit_ag)) $$ [HB]
  · isplitr; · iexact HE
    iexact HB
  iintro HB
  rw [wp_ret]; imodintro
  iapply Hdone2
  isplitl [Hx]; · iexact Hx
  isplitl [Hwq]; · iexact Hwq
  isplitl [Hk]; · iexact Hk
  isplitl [Hv]; · iexact Hv
  isplitl [Hwo]; · iexact Hwo
  isplitl [Hout]; · iexact Hout
  isplitl [HB]; · iexact HB
  isplitl [Hagc]; · iexact Hagc
  isplitl [Hago]; · iexact Hago
  isplitl [Hb0]; · iexact Hb0
  isplitl [Hb1]; · iexact Hb1
  isplitl [HfB]; · iexact HfB
  isplitl [HfS]; · iexact HfS
  isplitl [HfR]; · iexact HfR
  iexact HfG

/-- The kernel on device `c`. -/
theorem kernel_run (hA : A c = I.partial) : ∀ Q, (iprop(env A c ∗ inputs c I ∗ (∃ f, (((c : Thread nD τ).loc cc0_stg5_0) ↦{fullShare} f)) ∗ given c) : sProp 𝕄)
    ⊢ iprop(((inputs c I ∗ (((c : Thread nD τ).loc cc0_stg5_0) ↦{fullShare} outC A) ∗ left A c) -∗ Q ⟨⟩) -∗ wp frame (wpE (defs₀ (F := F)) 𝒱₀ c none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  intro Q
  simp only [cc0_body_eq_skeleton]; unfold cc0_body_skel
  iintro H Hk
  rw [wp_bind]
  ihave #HE := (show (iprop(env A c ∗ inputs c I ∗ (∃ f, (((c : Thread nD τ).loc cc0_stg5_0) ↦{fullShare} f)) ∗ given c) : sProp 𝕄) ⊢ env A c from by iintro ⟨#HE, -⟩; iexact HE) $$ H
  iapply (run19 A c I hA _) $$ H
  unfold nearly
  iintro ⟨Hx, Hwq, Hkk, Hv, Hwo, Hout, HB, Hagc, Hago, Hb0, Hb1, HfB, HfS, HfR, HfG⟩
  simp only [Prog.lift, Prog.bind_op, Prog.bind_ret, Prog.pure_eq_ret, Prog.bind_assoc]
  iapply (wp_shared A c 5 (sem_agS 5 (by decide)) (credit_ag)) $$ [HB]
  · isplitr; · iexact HE
    iexact HB
  iintro HB
  iapply (wp_shared A c 6 (sem_agS 6 (by decide)) (credit_ag)) $$ [HB]
  · isplitr; · iexact HE
    iexact HB
  iintro HB
  ihave HB := (from_agBack A c) $$ [HB Hagc Hago]
  · isplitl [HB]; · iexact HB
    isplitl [Hagc]; · iexact Hagc
    iexact Hago
  icases HB with ⟨HO, HfA, Hb2⟩
  rw [wp_ret, Orem_nil]; imodintro
  iapply Hk
  isplitl [Hx Hwq Hkk Hv Hwo]
  · unfold inputs
    isplitl [Hx]; · iexact Hx
    isplitl [Hwq]; · iexact Hwq
    isplitl [Hkk]; · iexact Hkk
    isplitl [Hv]; · iexact Hv
    iexact Hwo
  isplitl [Hout]; · iexact Hout
  unfold left
  isplitl [HO]; · iexact HO
  isplitl [Hb0]; · iexists _; iexact Hb0
  isplitl [Hb1]; · iexists _; iexact Hb1
  isplitl [Hb2]; · iexists _; iexact Hb2
  isplitl [HfB]; · iexact HfB
  isplitl [HfS]; · iexact HfS
  isplitl [HfR]; · iexact HfR
  isplitl [HfA]; · iexact HfA
  iexact HfG

end Parts

end Cert.KernelIdeal.Exchange
-- ==== Proof.Open.lean ====
/-
The transfer cells put to use and given back, and what a device starts with laid out in the pieces the exchange uses.
-/
module

public import proofs.«01_k».proof.Proof.BodyD

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Opening

variable (A : Dev nD → Vec F S512x512 .bf16) (c : Dev nD)

/-- The 31 transfer semaphores, kind by kind. -/
def kinds : Fin 8 ⊕ Fin 8 ⊕ Fin 7 ⊕ Fin 8 → Fin 31
  | .inl t => ⟨t.val, by omega⟩
  | .inr (.inl t) => ⟨8 + t.val, by omega⟩
  | .inr (.inr (.inl j)) => ⟨16 + j.val, by omega⟩
  | .inr (.inr (.inr t)) => ⟨23 + t.val, by omega⟩
theorem kinds_bij : Function.Bijective kinds := by decide

theorem by_kinds (Φ : Fin 31 → sProp 𝕄) :
    bigSep Finset.univ Φ = iprop(bigSep Finset.univ (fun t : Fin 8 => Φ ⟨t.val, by omega⟩) ∗ bigSep Finset.univ (fun t : Fin 8 => Φ ⟨8 + t.val, by omega⟩)
      ∗ bigSep Finset.univ (fun j : Fin 7 => Φ ⟨16 + j.val, by omega⟩) ∗ bigSep Finset.univ (fun t : Fin 8 => Φ ⟨23 + t.val, by omega⟩)) := by
  rw [bigSep_univ_equiv (Equiv.ofBijective kinds kinds_bij) Φ, BI.bigSep_univ_sum, BI.bigSep_univ_sum, BI.bigSep_univ_sum]
  rfl

theorem cells_by_kinds (Φ : GSem nD τ sig → sProp 𝕄) :
    bigSep Finset.univ (fun i : Fin 31 => Φ (scC c i)) = iprop(bigSep Finset.univ (fun t : Fin 8 => Φ (rsSC c t)) ∗ bigSep Finset.univ (fun t : Fin 8 => Φ (rsRC c t))
      ∗ bigSep Finset.univ (fun j : Fin 7 => Φ (agSC c j)) ∗ bigSep Finset.univ (fun t : Fin 8 => Φ (agRC c t))) := by
  rw [by_kinds]
  unfold rsSC rsRC agSC agRC
  simp only [rsS_sc, rsR_sc, agS_sc, agR_sc]

/-- A transfer cell put to use. -/
theorem open_one (g : GSem nD τ sig) : (iprop(inv A g ∗ (openTok ER g ∗ semVal g 0)) : sProp 𝕄)
    ⊢ iprop(|={Set.univ}=> (atPos ER g 0 ∅ 0 ∗ reached ER g 0)) := by
  unfold inv
  iintro ⟨⟨%κ, HI⟩, Ho, Hv⟩
  iapply (Rounds.cell_open ER (sched A) (g := g) (Set.mem_univ κ))
  isplitl [HI]; · iexact HI
  isplitl [Ho] <;> iassumption

/-- A cell past its duties gives its counter back at zero. -/
theorem close_one (g : GSem nD τ sig) : (iprop(inv A g ∗ fin A g) : sProp 𝕄) ⊢ iprop(|={Set.univ}=> semVal g 0) := by
  unfold inv fin
  iintro ⟨⟨%κ, HI⟩, %R, %hR, Ha⟩
  iapply (Rounds.cell_close ER (sched A) (g := g) (Set.mem_univ κ) (fun h => h) hR)
  isplitl [HI]; · iexact HI
  iexact Ha

def positions : sProp 𝕄 := bigSep Finset.univ fun i : Fin 31 => (atPos ER (scC c i) 0 ∅ 0 : sProp 𝕄)
def unopened : sProp 𝕄 := bigSep Finset.univ fun i : Fin 31 => (openTok ER (scC c i) : sProp 𝕄)
def counters : sProp 𝕄 := bigSep Finset.univ fun i : Fin 31 => (semVal (scC c i) 0 : sProp 𝕄)

theorem open_all : (iprop(recs A ∗ unopened c ∗ counters c) : sProp 𝕄) ⊢ iprop(|={Set.univ}=> (env A c ∗ positions c)) := by
  unfold unopened counters
  iintro ⟨#HR, Ho, Hv⟩
  ihave H := (zip_to Finset.univ (fun i : Fin 31 => (openTok ER (scC c i) : sProp 𝕄)) (fun i : Fin 31 => (semVal (scC c i) 0 : sProp 𝕄))
    (fun i : Fin 31 => iprop(openTok ER (scC c i) ∗ semVal (scC c i) 0)) fun _ _ => BI.Entails.refl _) $$ [Ho Hv]
  · isplitl [Ho] <;> iassumption
  ihave H := (bigSep_with_persistent (S := Finset.univ) (R := recs A) (Φ := fun i : Fin 31 => iprop(openTok ER (scC c i) ∗ semVal (scC c i) 0))
    (Ψ := fun i : Fin 31 => iprop(|={Set.univ}=> (atPos ER (scC c i) 0 ∅ 0 ∗ reached ER (scC c i) 0)))
    fun i _ => (BI.sep_mono (recs_sc A c i) (BI.Entails.refl _)).trans (open_one A (scC c i))) $$ [H]
  · isplitr; · iexact HR
    iexact H
  imod (bigSep_fupd Finset.univ (fun i : Fin 31 => iprop(atPos ER (scC c i) 0 ∅ 0 ∗ reached ER (scC c i) 0))) $$ H with H
  ihave H := (unzip Finset.univ (fun i : Fin 31 => (atPos ER (scC c i) 0 ∅ 0 : sProp 𝕄)) (fun i : Fin 31 => (reached ER (scC c i) 0 : sProp 𝕄))) $$ H
  icases H with ⟨Ha, #Hr⟩
  imodintro
  unfold env positions
  isplitr
  · isplitr; · iexact HR
    iexact Hr
  iexact Ha

/-! ## What a device starts with, in the pieces the exchange uses -/

/-- The tokens of the signals a device sends. -/
def sigToks : sProp 𝕄 := bigSep (others c) fun t => (dutyTok ER (barC t) 0 c : sProp 𝕄)
def toks : sProp 𝕄 := iprop(sigToks c ∗ rsToks c ∗ agToks c ∗ agSToks c)
/-- What a device may wait for. -/
def creds : sProp 𝕄 :=
  iprop(cred (tallyAt (barC c) () 7) ∗ bigSep (others c) (fun s => (cred (tallyAt (rsRC c s) () N) : sProp 𝕄)) ∗ bigSep (others c) (fun s => (cred (tallyAt (agRC c s) () N) : sProp 𝕄)))
def scratch : sProp 𝕄 :=
  iprop((∃ f, (((c : Thread nD τ).loc cc0_scratch0) ↦{fullShare} f)) ∗ (∃ f, (((c : Thread nD τ).loc cc0_scratch1) ↦{fullShare} f)) ∗ (∃ f, (((c : Thread nD τ).loc cc0_scratch2) ↦{fullShare} f)))
/-- The positions on the three cells of a device's own number, which nothing uses. -/
def idle : sProp 𝕄 := iprop(atPos ER (rsSC c c) 0 ∅ 0 ∗ atPos ER (rsRC c c) 0 ∅ 0 ∗ atPos ER (agRC c c) 0 ∅ 0)

theorem given_intro : (iprop(owesX c (O₀ c) ∗ scratch c ∗ toks c ∗ creds c ∗ atPos ER (barC c) 0 ∅ 0 ∗ positions c) : sProp 𝕄) ⊢ iprop(given c ∗ idle c) := by
  unfold scratch toks creds positions given idle sigState rsWaits agWaits rsBacks agBacks sigToks
  rw [upTo_zero, progress_start, cells_by_kinds c (fun g => (atPos ER g 0 ∅ 0 : sProp 𝕄)), take_eq (Finset.mem_univ c) (fun t : Fin 8 => (atPos ER (rsSC c t) 0 ∅ 0 : sProp 𝕄)),
    take_eq (Finset.mem_univ c) (fun t : Fin 8 => (atPos ER (rsRC c t) 0 ∅ 0 : sProp 𝕄)), take_eq (Finset.mem_univ c) (fun t : Fin 8 => (atPos ER (agRC c t) 0 ∅ 0 : sProp 𝕄))]
  simp only [rs_split, ag_split]
  iintro ⟨HO, ⟨Hs0, ⟨%f1, Hs1⟩, ⟨%f2, Hs2⟩⟩, ⟨Hst, Hrt, Hat, Hgt⟩, ⟨HcB, HcR, HcG⟩, HaB, ⟨HaS0, HaS⟩, ⟨HaR0, HaR⟩, HaJ, HaG0, HaG⟩
  ihave Hs1 := (Entails.of_eq (take_eq (Finset.mem_univ c) (fun t : Fin 8 => rsP c t fullShare f1))) $$ Hs1
  ihave Hs2 := (Entails.of_eq (take_eq (Finset.mem_univ c) (fun t : Fin 8 => agP c t fullShare f2))) $$ Hs2
  icases Hs1 with ⟨Hr0, Hr⟩
  icases Hs2 with ⟨Hg0, Hg⟩
  isplitr [HaS0 HaR0 HaG0]
  · isplitl [HO Hst Hr Hg]
    · isplitl [HO]; · iexact HO
      iapply (zip_to (others c) (fun t => (dutyTok ER (barC t) 0 c : sProp 𝕄)) (fun t => iprop(rsP c t fullShare f1 ∗ agP c t fullShare f2)) (sigRes c)
        fun t _ => by
          unfold sigRes
          iintro ⟨H1, H2, H3⟩
          isplitl [H1]; · iexact H1
          isplitl [H2]; · iexists f1; iexact H2
          iexists f2; iexact H3)
      isplitl [Hst]; · iexact Hst
      iapply (zip_to (others c) (fun t => rsP c t fullShare f1) (fun t => agP c t fullShare f2) (fun t => iprop(rsP c t fullShare f1 ∗ agP c t fullShare f2)) fun _ _ => BI.Entails.refl _)
      isplitl [Hr] <;> iassumption
    isplitl [Hs0]; · iexact Hs0
    isplitl [HcB]; · iexact HcB
    isplitl [HaB]; · iexact HaB
    isplitl [Hrt]; · iexact Hrt
    isplitl [Hr0]; · iexists f1; iexact Hr0
    isplitl [HcR HaR]
    · iapply (zip_to (others c) (fun s => (cred (tallyAt (rsRC c s) () N) : sProp 𝕄)) (fun s => (atPos ER (rsRC c s) 0 ∅ 0 : sProp 𝕄)) (fun s => iprop(cred (tallyAt (rsRC c s) () N) ∗ atPos ER (rsRC c s) 0 ∅ 0)) fun _ _ => BI.Entails.refl _)
      isplitl [HcR] <;> iassumption
    isplitl [Hg0]; · iexists f2; iexact Hg0
    isplitl [Hat]; · iexact Hat
    isplitl [Hgt]; · iexact Hgt
    isplitl [HcG HaG]
    · iapply (zip_to (others c) (fun s => (cred (tallyAt (agRC c s) () N) : sProp 𝕄)) (fun s => (atPos ER (agRC c s) 0 ∅ 0 : sProp 𝕄)) (fun s => iprop(cred (tallyAt (agRC c s) () N) ∗ atPos ER (agRC c s) 0 ∅ 0)) fun _ _ => BI.Entails.refl _)
      isplitl [HcG] <;> iassumption
    isplitl [HaS] <;> iassumption
  isplitl [HaS0]; · iexact HaS0
  isplitl [HaR0] <;> iassumption

/-! ## The end -/

theorem fin_idle (sm : SemLoc sig) (h : dutyOf c (role sm) = ∅) : (atPos ER ((c : Thread nD τ), sm) 0 ∅ 0 : sProp 𝕄) ⊢ fin A ((c : Thread nD τ), sm) := by
  unfold fin
  iintro H
  iexists 0
  isplitr; · ipureintro; exact duties_none A ((c : Thread nD τ), sm) h
  iexact H

theorem close_all : (iprop(recs A ∗ left A c ∗ idle c) : sProp 𝕄)
    ⊢ iprop(|={Set.univ}=> (owesX c 0 ∗ scratch c ∗ semVal (barC c) 0 ∗ counters c)) := by
  unfold left idle scratch counters
  iintro ⟨#HR, ⟨HO, Hs0, Hs1, Hs2, Hb, HS, HV, HJ, HG⟩, HS0, HV0, HG0⟩
  ihave HS0 := (fin_idle A c (.dma (rsS c)) (by rw [role_rsS]; exact if_pos rfl)) $$ HS0
  ihave HV0 := (fin_idle A c (.dma (rsR c)) (by rw [role_rsR]; exact if_pos rfl)) $$ HV0
  ihave HG0 := (fin_idle A c (.dma (agR c)) (by rw [role_agR]; exact if_pos rfl)) $$ HG0
  ihave H := (show iprop((fin A (rsSC c c) ∗ bigSep (others c) (fun t => fin A (rsSC c t))) ∗ (fin A (rsRC c c) ∗ bigSep (others c) (fun t => fin A (rsRC c t)))
        ∗ bigSep Finset.univ (fun j : Fin 7 => fin A (agSC c j)) ∗ (fin A (agRC c c) ∗ bigSep (others c) (fun t => fin A (agRC c t))))
      ⊢ bigSep Finset.univ (fun i : Fin 31 => fin A (scC c i)) from Entails.of_eq (by
        rw [cells_by_kinds c (fun g => fin A g), take_eq (Finset.mem_univ c) (fun t : Fin 8 => fin A (rsSC c t)),
          take_eq (Finset.mem_univ c) (fun t : Fin 8 => fin A (rsRC c t)), take_eq (Finset.mem_univ c) (fun t : Fin 8 => fin A (agRC c t))])) $$ [HS0 HS HV0 HV HJ HG0 HG]
  · isplitl [HS0 HS]; · isplitl [HS0] <;> iassumption
    isplitl [HV0 HV]; · isplitl [HV0] <;> iassumption
    isplitl [HJ]; · iexact HJ
    isplitl [HG0] <;> iassumption
  ihave H := (bigSep_with_persistent (S := Finset.univ) (R := recs A) (Φ := fun i : Fin 31 => fin A (scC c i))
    (Ψ := fun i : Fin 31 => iprop(|={Set.univ}=> semVal (scC c i) 0))
    fun i _ => (BI.sep_mono (recs_sc A c i) (BI.Entails.refl _)).trans (close_one A (scC c i))) $$ [H]
  · isplitr; · iexact HR
    iexact H
  imod (bigSep_fupd Finset.univ (fun i : Fin 31 => (semVal (scC c i) 0 : sProp 𝕄))) $$ H with H
  imod (close_one A (barC c)) $$ [Hb] with Hb
  · isplitr; · iapply (recs_bar A c); iexact HR
    iexact Hb
  imodintro
  isplitl [HO]; · iexact HO
  isplitl [Hs0 Hs1 Hs2]
  · isplitl [Hs0]; · iexact Hs0
    isplitl [Hs1] <;> iassumption
  isplitl [Hb] <;> iassumption

end Opening

end Cert.KernelIdeal.Exchange
-- ==== Proof.Region.lean ====
/-
The kernel as one region of the program: what holds before and after it, that the body keeps to it, and what it leaves in
the result array.
-/
module

public import proofs.«01_k».proof.Proof.Open
public import proofs.«01_k».proof.Proof.Gen.KernelIdeal.Points
public import proofs.«01_k».proof.Proof.Gen.KernelIdeal.Regions
public import Idealize.ShloMosaic.Lib.Pipeline.Frame
public import Idealize.ShloMosaic.Lib.Pipeline.FrameBody
public import Idealize.ShloMosaic.Lib.Pipeline.Value

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Region

variable (m : (ℓ : Loc nD τ sig) → Buf (Elt F) ℓ) (c : Dev nD)

/-- What the kernel reads on device `c`. -/
def ins : Inp F where
  x := V1 m c main_arg0
  wq := V1 m c main_v9
  k := V1 m c main_arg2
  v := V1 m c main_arg3
  wo := V1 m c main_v14

/-- The partial products of the devices. -/
def parts : Dev nD → Vec F S512x512 .bf16 := fun c => (ins m c).partial
/-- The result, the same on every device. -/
def result : Vec F S2x256x512 .bf16 := outC (parts m)

/-- The result array at the end; the other arrays as launched. -/
def outs : Outs (F := F) := fun _ r c => Function.update (fun r : Ref sig .tc => V0 m c r) main_v15 (result m) r
theorem outs_v15 : outs m 2 main_v15 c = result m := Function.update_self ..

/-- Before the kernel: the cells open, the tokens, the credits and the scratch buffers. -/
def atStart : sProp 𝕄 :=
  iprop((env (parts m) c ∗ positions c ∗ atPos ER (barC c) 0 ∅ 0 ∗ toks c ∗ creds c) ∗ scratch c ∗ ∃ r, prngReg c r)
/-- After it: every counter back at zero. -/
def atEnd : sProp 𝕄 := iprop((semVal (barC c) 0 ∗ counters c) ∗ scratch c ∗ ∃ r, prngReg c r)

def dat0 : Dat τ (Elt F) Unit ℕ UU ℕ cfg0 c where
  A w := V1 m c (Proc.devRef .tc (Pipeline.arrRef spec0 w))
  after w _ := match w with
    | 0 => (ins m c).x
    | 1 => (ins m c).wq
    | 2 => (ins m c).k
    | 3 => (ins m c).v
    | 4 => (ins m c).wo
    | 5 => result m
    | ⟨_ + 6, h⟩ => absurd h (Nat.not_lt.2 (Nat.le_add_left _ _))
  Φ t := if t.val = 0 then atStart m c else atEnd c
  q _ := fullShare
  owed t := if t.val = 0 then O₀ c else 0

def pdats : (p : Fin 1) → (c : Dev nD) → Dat τ (Elt F) Unit ℕ UU ℕ (Pipeline.pin (pcfgs (F := F)) adm p) c := fun _ => dat0 m

theorem owed_zero : (pdats m 0 c).owed 0 = O₀ c := by
  show (if ((0 : Fin (cfg0.N + 1)).val = 0) then O₀ c else 0) = O₀ c; exact if_pos rfl
theorem owed_first : (dat0 m c).owed t0_0.castSucc = O₀ c := by
  show (if ((t0_0.castSucc : Fin (cfg0.N + 1)).val = 0) then O₀ c else 0) = O₀ c; exact if_pos rfl
theorem owed_last : (pdats m 0 c).owed (Fin.last _) = 0 := by
  show (if ((Fin.last cfg0.N).val = 0) then O₀ c else 0) = 0
  rw [Fin.val_last, if_neg (by rw [show cfg0.N = 1 from N_0]; decide)]

/-- Owing `O`, as the pipeline states it. -/
theorem owes_in {cfg : Cfg sig Λ₀} (dat : Dat τ (Elt F) Unit ℕ UU ℕ cfg c) (t : Fin (cfg.N + 1)) (O : CellTallies nD τ sig Unit)
    (h : dat.owed t = O) (hr : dat.recorded t = Set.univ) : (owesX c O : sProp 𝕄) ⊢ dat.owesAt () t := by
  unfold owesX Dat.owesAt Pipeline.owesWithin Dat.bound
  rw [h, hr]
  iintro ⟨%W, HO⟩
  iexists W
  isplitr; · ipureintro; exact fun _ _ => Or.inl trivial
  iexact HO
theorem owes_out {cfg : Cfg sig Λ₀} (dat : Dat τ (Elt F) Unit ℕ UU ℕ cfg c) (t : Fin (cfg.N + 1)) (O : CellTallies nD τ sig Unit)
    (h : dat.owed t = O) : (dat.owesAt () t : sProp 𝕄) ⊢ owesX c O := by
  unfold owesX Dat.owesAt Pipeline.owesWithin
  rw [h]
  iintro ⟨%W, -, HO⟩
  iexists W
  iexact HO

theorem whole_owned (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A rectangle of the whole array's extents sits at its start. -/
theorem start_emb {s : Shape} (off : Fin s.rank → Nat) (inb : ∀ a, off a + s.size a ≤ s.size a) (j : s.Idx) : (Rect.unit (s := s) off s.size inb).emb j = j := by
  funext a; apply Fin.ext
  rw [Rect.emb_apply]
  show off a + 1 * (j a).val = (j a).val
  have := inb a
  omega

theorem before0 (d) : (dat0 m c).before 0 t0_0 d = (ins m c).x := by
  unfold Dat.before; rw [if_pos (fetch0_0 _)]
  funext j
  show (V1 m c main_arg0) ((win0_0.rect t0_0).emb j) = V1 m c main_arg0 j
  exact congrArg (V1 m c main_arg0) (start_emb _ _ j)
theorem before1 (d) : (dat0 m c).before 1 t0_0 d = (ins m c).wq := by
  unfold Dat.before; rw [if_pos (fetch0_1 _)]
  funext j
  show (V1 m c main_v9) ((win0_1.rect t0_0).emb j) = V1 m c main_v9 j
  exact congrArg (V1 m c main_v9) (start_emb _ _ j)
theorem before2 (d) : (dat0 m c).before 2 t0_0 d = (ins m c).k := by
  unfold Dat.before; rw [if_pos (fetch0_2 _)]
  funext j
  show (V1 m c main_arg2) ((win0_2.rect t0_0).emb j) = V1 m c main_arg2 j
  exact congrArg (V1 m c main_arg2) (start_emb _ _ j)
theorem before3 (d) : (dat0 m c).before 3 t0_0 d = (ins m c).v := by
  unfold Dat.before; rw [if_pos (fetch0_3 _)]
  funext j
  show (V1 m c main_arg3) ((win0_3.rect t0_0).emb j) = V1 m c main_arg3 j
  exact congrArg (V1 m c main_arg3) (start_emb _ _ j)
theorem before4 (d) : (dat0 m c).before 4 t0_0 d = (ins m c).wo := by
  unfold Dat.before; rw [if_pos (fetch0_4 _)]
  funext j
  show (V1 m c main_v14) ((win0_4.rect t0_0).emb j) = V1 m c main_v14 j
  exact congrArg (V1 m c main_v14) (start_emb _ _ j)
theorem read_out (G : Vec F S2x256x512 .bf16) : ((cfg0.win 5).blk t0_0).view.read (Elt F) G = G := by
  funext j
  show G ((win0_5.rect t0_0).emb j) = G j
  exact congrArg G (start_emb _ _ j)

set_option maxRecDepth 4000 in
theorem body_ok : BodyObligation (dat0 m c) (defs₀ (F := F)) 𝒱₀ () Set.univ := fun t => by
  obtain rfl := fin_N0 t
  rw [bigSep_W0, bigSep_W0]
  simp only [whole_owned]
  rw [show (dat0 m c).Φ t0_0.castSucc = atStart m c from rfl, show (dat0 m c).Φ t0_0.succ = atEnd c from rfl]
  unfold atStart atEnd
  iintro ⟨⟨⟨#HE, HP, HaB, HT, HC⟩, Hs, Hreg⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  rw [before0] at h0
  rw [before1] at h1
  rw [before2] at h2
  rw [before3] at h3
  rw [before4] at h4
  subst h0 h1 h2 h3 h4
  ihave HO := (owes_out c (dat0 m c) t0_0.castSucc (O₀ c) (owed_first m c)) $$ HO
  ihave HG := (given_intro (F := F) c) $$ [HP HaB HT HC Hs HO]
  · isplitl [HO]; · iexact HO
    isplitl [Hs]; · iexact Hs
    isplitl [HT]; · iexact HT
    isplitl [HC]; · iexact HC
    isplitl [HaB] <;> iassumption
  icases HG with ⟨HG, Hidle⟩
  iapply (wp_fupd)
  iapply (kernel_run (parts m) c (ins m c) rfl _) $$ [HG H0 H1 H2 H3 H4 H5]
  · isplitr; · iexact HE
    isplitl [H0 H1 H2 H3 H4]
    · unfold inputs
      isplitl [H0]; · iexact H0
      isplitl [H1]; · iexact H1
      isplitl [H2]; · iexact H2
      isplitl [H3]; · iexact H3
      iexact H4
    isplitl [H5]; · iexists f5; iexact H5
    iexact HG
  unfold inputs
  iintro ⟨⟨H0, H1, H2, H3, H4⟩, H5, HL⟩
  imod (close_all (parts m) c) $$ [HL Hidle] with ⟨HO, Hs, Hb, Hc⟩
  · isplitr; · iapply (env_recs (parts m) c); iexact HE
    isplitl [HL] <;> iassumption
  imodintro
  isplitl [Hs Hb Hc Hreg]
  · isplitl [Hb Hc]; · isplitl [Hb] <;> iassumption
    isplitl [Hs] <;> iassumption
  isplitl [HO]; · iapply (owes_in c (dat0 m c) t0_0.succ 0 (owed_last m c) rfl); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

/-! ## The arrays before and after -/

theorem flushed_out (t : Fin cfg0.N) : (dat0 m c).flushed 5 t = ((cfg0.win 5).blk t).view.read (Elt F) (result m) := by
  obtain rfl := fin_N0 t
  rw [read_out]
  rfl
theorem out_covered (i : S2x256x512.Idx) : ∃ t : Fin cfg0.N, (cfg0.win 5).flush t = true ∧ i ∈ ((cfg0.win 5).blk t).view.set :=
  ⟨t0_0, flush0_5 _, by
    show i ∈ ((View.whole main_v15).slice (win0_5.rect t0_0)).set
    rw [View.set_slice_whole, ← Rect.map_emb_univ, Finset.mem_map]
    exact ⟨i, Finset.mem_univ _, start_emb _ _ i⟩⟩
theorem arr_out : (dat0 m c).arrAt 5 cfg0.N = result m :=
  (dat0 m c).arrAt_eq_of_cover 5 (result m) (fun t _ => flushed_out m c t) out_covered

theorem v2_v15 : V2 m (outs m) c main_v15 = result m := (Function.update_self ..).trans (outs_v15 m c)
theorem arr_start (w : Fin 6) : (dat0 m c).arrAt w 0 = V1 m c (Proc.devRef .tc (Pipeline.arrRef spec0 w)) := rfl
theorem arr_end : ∀ w : Fin 6, (dat0 m c).arrAt w cfg0.N = V2 m (outs m) c (Proc.devRef .tc (Pipeline.arrRef spec0 w))
  | 0 => ((dat0 m c).arrAt_in 0 rfl _).trans (V2_of m (outs m) c main_arg0 (by decide)).symm
  | 1 => ((dat0 m c).arrAt_in 1 rfl _).trans (V2_of m (outs m) c main_v9 (by decide)).symm
  | 2 => ((dat0 m c).arrAt_in 2 rfl _).trans (V2_of m (outs m) c main_arg2 (by decide)).symm
  | 3 => ((dat0 m c).arrAt_in 3 rfl _).trans (V2_of m (outs m) c main_arg3 (by decide)).symm
  | 4 => ((dat0 m c).arrAt_in 4 rfl _).trans (V2_of m (outs m) c main_v14 (by decide)).symm
  | 5 => (arr_out m c).trans (v2_v15 m c).symm
  | ⟨_ + 6, h⟩ => absurd h (Nat.not_lt.2 (Nat.le_add_left _ _))

theorem share_full (w : Fin 6) : (dat0 m c).share w = fullShare := by
  unfold Dat.share; split <;> rfl

/-! ## The kernel as a region of the program -/

/-- What the launch hands the kernel beside the buffers. -/
def dealt : sProp 𝕄 := iprop(recs (parts m) ∗ unopened c ∗ atPos ER (barC c) 0 ∅ 0 ∗ toks c ∗ creds c)
def opened : sProp 𝕄 := iprop(env (parts m) c ∗ positions c ∗ atPos ER (barC c) 0 ∅ 0 ∗ toks c ∗ creds c)
def closed : sProp 𝕄 := semVal (barC c) 0

theorem dealt_opened : iprop(dealt m c ∗ Pipeline.ownSems0 scS c ∗ levAts L lv) ⊢ (|={Set.univ}=> opened m c : sProp 𝕄) := by
  unfold dealt opened
  iintro ⟨⟨#HR, Ho, Ha, HT, HC⟩, Hv, -⟩
  imod (open_all (parts m) c) $$ [Ho Hv] with ⟨#HE, HP⟩
  · isplitr; · iexact HR
    isplitl [Ho]; · iexact Ho
    unfold counters Pipeline.ownSems0; iexact Hv
  imodintro
  isplitr; · iexact HE
  isplitl [HP]; · iexact HP
  isplitl [Ha]; · iexact Ha
  isplitl [HT] <;> iassumption

theorem held_none (W : Valuation τ sig (Elt F)) : (StableHlo.held (c.tc : Thread nD τ) ∅ W : sProp 𝕄) = BI.emp := by
  unfold StableHlo.held; exact BI.bigSep_empty

theorem enter : iprop(Pipeline.scopedRest (Pipeline.pin (pcfgs (F := F)) adm 0).spec c ∗ (∃ r, prngReg c r) ∗ StableHlo.held (c.tc : Thread nD τ) ∅ (V1 m c) ∗ opened m c)
    ⊢ (pdats m 0 c).Φ 0 := by
  rw [show (pdats m 0 c).Φ 0 = atStart m c from rfl, show (Pipeline.pin (pcfgs (F := F)) adm 0).spec = spec0 from rfl, scopedRest0_eq]
  unfold opened atStart scratch
  iintro ⟨Hs, Hp, -, H⟩
  isplitl [H]; · iexact H
  isplitl [Hs]; · iexact Hs
  iexact Hp

theorem leave : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V2 m (outs m) c)
      ∗ Pipeline.ownSems0 scS c ∗ closed c) := by
  rw [show (pdats m 0 c).Φ (Fin.last _) = atEnd c from rfl, show (Pipeline.pin (pcfgs (F := F)) adm 0).spec = spec0 from rfl, scopedRest0_eq, held_none]
  unfold atEnd scratch closed counters Pipeline.ownSems0
  iintro ⟨⟨Hb, Hc⟩, Hs, Hp⟩
  isplitl [Hs]; · iexact Hs
  isplitl [Hp]; · iexact Hp
  isplitr; · iempintro
  isplitl [Hc]; · iexact Hc
  iexact Hb

theorem kit0 : Pipeline.PLaunchFacts (nD := nD) (τ := τ) (pcfgs (F := F)) 0 := launch0.toP

theorem owed_cut (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · rcases Orem_pos h with ⟨t, -, rfl⟩ | ⟨t, -, rfl⟩ | ⟨t, -, rfl⟩
    · exact ⟨by rw [L_tc]; exact Finset.mem_singleton_self _, by dsimp only [lv]; rw [role_bar]; decide⟩
    · exact ⟨by rw [L_tc]; exact Finset.mem_singleton_self _, by dsimp only [lv]; rw [role_rsR]; exact Nat.succ_pos 1⟩
    · exact ⟨by rw [L_tc]; exact Finset.mem_singleton_self _, by dsimp only [lv]; rw [role_agR]; exact Nat.succ_pos 2⟩
  · exact absurd h (Nat.lt_irrefl 0)

/-- The staging cells lie below everything owed. -/
theorem stage_role : ∀ (w : Fin 6) (s : Fin (win0 w).nbuf), lvRole (role (.dma ((win0 w).sem s))) = 0 := by decide

theorem level_cut : Pipeline.LevelCutOwed (pcfgs (F := F)) adm (pdats m) () L lv 0 (fun _ => 0) where
  hι c w s := by rw [L_tc]; exact Finset.mem_singleton_self _
  hιb c w s := Nat.le_of_eq (stage_role w s)
  hD c t g i h := owed_cut m c t g i h

/-- The other arrays of the program. -/
abbrev restRefs : Finset (DevRef τ sig) := Pipeline.ucRefs τ sig \ Pipeline.arrRefs (τ := τ) spec0
theorem v15_arr : (Proc.devRef .tc main_v15 : DevRef τ sig) ∈ Pipeline.arrRefs (τ := τ) spec0 :=
  Finset.mem_map.mpr ⟨main_v15, Finset.mem_image.mpr ⟨(5 : Fin 6), Finset.mem_univ _, rfl⟩, rfl⟩

theorem rest_same (b : DevRef τ sig) (hb : b ∈ restRefs) : V2 m (outs m) c b = V1 m c b :=
  Function.update_of_ne (fun h => (Finset.mem_sdiff.mp hb).2 (by rw [h]; exact v15_arr)) _ _

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 scS (by decide : Pipeline.OwnSemFacts spec0 scS)
    ∅ restRefs (Finset.empty_subset _) kit0 rfl (fun c => (body_ok m c).loose)
    (fun _ => 0) O₀ (fun c => (owed_zero m c).trans (zero_add _).symm) (owed_last m) (fun _ => rfl) (share_full m)
    (V1 m) (V2 m (outs m))
    (fun c b hb => rest_same m c b (Finset.mem_sdiff.mp hb).1)
    (dealt m) closed (opened m) closed (dealt_opened m) (enter m) (leave m)
    (fun c => by iintro H; imodintro; iexact H)
    (fun _ => 0) (level_cut m)
    (fun _ => iprop(emp))
    (arr_start m) (arr_end m)

/-- What rides beside the buffers: before the kernel, and after it. -/
def rides : Fin 2 → Dev nD → sProp 𝕄
  | 0, c => iprop(dealt m c ∗ owesX c (O₀ c) ∗ ∃ r, prngReg c r)
  | 1, c => iprop(closed c ∗ owesX c 0)
  | ⟨_ + 2, h⟩, _ => absurd h (Nat.not_lt.2 (Nat.le_add_left _ _))

theorem region_pre : iprop(StableHlo.held (c : Thread nD τ) (Pipeline.ucRefs τ sig) (V1 m c) ∗ rides m 0 c) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) restRefs (V1 m c) ∗ emp) ∗ dealt m c ∗ ∃ Wd, owes (c : Thread nD τ) (0 + O₀ c) Wd)
  rw [zero_add, StableHlo.held_sub_split (c.tc : Thread nD τ) (Pipeline.arrRefs_sub_ucRefs (τ := τ) spec0 winFacts0.arr_unscoped) (V1 m c)]
  show iprop(_ ∗ dealt m c ∗ owesX c (O₀ c) ∗ ∃ r, prngReg c r) ⊢ _
  unfold owesX
  iintro ⟨⟨Ha, Hr⟩, HD, HO, Hp⟩
  isplitl [Ha]; · iexact Ha
  isplitl [Hp]; · iexact Hp
  isplitl [Hr]
  · isplitl [Hr]; · iexact Hr
    iempintro
  isplitl [HD]; · iexact HD
  iexact HO

theorem region_post : (region m).post c ⊢ iprop(StableHlo.held (c : Thread nD τ) (Pipeline.ucRefs τ sig) (V2 m (outs m) c) ∗ rides m 1 c) := by
  show iprop(StableHlo.held (c.tc : Thread nD τ) (Pipeline.arrRefs (τ := τ) spec0) (V2 m (outs m) c) ∗ (∃ r, prngReg c r)
    ∗ (StableHlo.held (c.tc : Thread nD τ) restRefs (V2 m (outs m) c) ∗ emp) ∗ closed c ∗ ∃ Wd, owes (c : Thread nD τ) (0 : CellTallies nD τ sig Unit) Wd) ⊢ _
  rw [StableHlo.held_sub_split (c.tc : Thread nD τ) (Pipeline.arrRefs_sub_ucRefs (τ := τ) spec0 winFacts0.arr_unscoped) (V2 m (outs m) c)]
  show _ ⊢ iprop(_ ∗ closed c ∗ owesX c 0)
  unfold owesX
  iintro ⟨Ha, -, ⟨Hr, -⟩, Hb, HO⟩
  isplitl [Ha Hr]; · isplitl [Ha] <;> iassumption
  isplitl [Hb]; · iexact Hb
  iexact HO

end Region

end Cert.KernelIdeal.Exchange
-- ==== Proof.Launch.lean ====
/-
The launch: what the devices owe each other, how the cells and tokens are dealt out, and the run of the whole program.
-/
module

public import proofs.«01_k».proof.Proof.Region

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What the devices owe each other -/

section Credit

/-- A sum of tallies on different cells, read at one of them. -/
theorem sum_tally_at (S : Finset (Fin 8)) (f : Fin 8 → GSem nD τ sig) (hf : Function.Injective f) (k : ℕ) (t : Fin 8) :
    (∑ s ∈ S, tallyAt (f s) () k : CellTallies nD τ sig Unit) (f t) () = if t ∈ S then k else 0 := by
  rw [Finset.sum_apply, Finsupp.finset_sum_apply, Finset.sum_congr rfl fun s _ => show (tallyAt (f s) () k : CellTallies nD τ sig Unit) (f t) () = if t = s then k else 0 by
    rw [tallyAt_apply]
    by_cases h : t = s
    · rw [if_pos ⟨congrArg f h, rfl⟩, if_pos h]
    · rw [if_neg fun h' => h (hf h'.1), if_neg h]]
  exact Finset.sum_ite_eq S t fun _ => k
/-- Read at a cell that is none of them. -/
theorem sum_tally_off (S : Finset (Fin 8)) (f : Fin 8 → GSem nD τ sig) (k : ℕ) (g : GSem nD τ sig) (h : ∀ t, g ≠ f t) :
    (∑ s ∈ S, tallyAt (f s) () k : CellTallies nD τ sig Unit) g () = 0 := by
  by_contra hn
  obtain ⟨t, -, e⟩ := sum_tally_pos S f k g () (Nat.pos_of_ne_zero hn)
  exact h t e

theorem dev_of {g g' : GSem nD τ sig} (h : g = g') : g.1.1 = g'.1.1 := congrArg (fun g : GSem nD τ sig => g.1.1) h
theorem role_of {g g' : GSem nD τ sig} (h : g = g') : role g.2 = role g'.2 := congrArg (fun g : GSem nD τ sig => role g.2) h

theorem bar_inj : Function.Injective (fun t : Fin 8 => barC t) := fun _ _ h => dev_of h
theorem rsR_inj (c : Fin 8) : Function.Injective (fun t : Fin 8 => rsRC t c) := fun _ _ h => dev_of h
theorem agR_inj (c : Fin 8) : Function.Injective (fun t : Fin 8 => agRC t c) := fun _ _ h => dev_of h

theorem bar_ne_rsR (c t s : Fin 8) : barC c ≠ rsRC t s := fun h => by
  have := role_of h; rw [role_bar, role_rsR] at this; exact Role.noConfusion this
theorem bar_ne_agR (c t s : Fin 8) : barC c ≠ agRC t s := fun h => by
  have := role_of h; rw [role_bar, role_agR] at this; exact Role.noConfusion this
theorem rsR_ne_agR (c d t s : Fin 8) : rsRC c d ≠ agRC t s := fun h => by
  have := role_of h; rw [role_rsR, role_agR] at this; exact Role.noConfusion this
theorem rsR_ne (c d t s : Fin 8) (hn : d ≠ s) : rsRC c d ≠ rsRC t s := fun h => by
  have := role_of h; rw [role_rsR, role_rsR] at this; exact hn (Role.rsRecv.inj this)
theorem agR_ne (c d t s : Fin 8) (hn : d ≠ s) : agRC c d ≠ agRC t s := fun h => by
  have := role_of h; rw [role_agR, role_agR] at this; exact hn (Role.agRecv.inj this)

theorem owed_bar (d c : Dev nD) : O₀ d (barC c) () = if c ∈ others d then 1 else 0 := by
  unfold O₀ Orem
  rw [Pi.add_apply, Finsupp.add_apply, Pi.add_apply, Finsupp.add_apply, sum_tally_at _ (fun t => barC t) bar_inj,
    sum_tally_off _ (fun t => rsRC t d) _ _ fun t => bar_ne_rsR c t d, sum_tally_off _ (fun t => agRC t d) _ _ fun t => bar_ne_agR c t d]; rfl
theorem owed_rs (d c s : Dev nD) : O₀ d (rsRC c s) () = if d = s then (if c ∈ others s then N else 0) else 0 := by
  unfold O₀ Orem
  rw [Pi.add_apply, Finsupp.add_apply, Pi.add_apply, Finsupp.add_apply, sum_tally_off _ (fun t => barC t) _ _ fun t => (bar_ne_rsR t c s).symm,
    sum_tally_off _ (fun t => agRC t d) _ _ fun t => rsR_ne_agR c s t d, Nat.add_zero, Nat.zero_add]
  by_cases h : d = s
  · subst h; rw [if_pos rfl, sum_tally_at _ (fun t => rsRC t d) (rsR_inj d)]
  · rw [if_neg h, sum_tally_off _ (fun t => rsRC t d) _ _ fun t => rsR_ne c s t d (Ne.symm h)]
theorem owed_ag (d c s : Dev nD) : O₀ d (agRC c s) () = if d = s then (if c ∈ others s then N else 0) else 0 := by
  unfold O₀ Orem
  rw [Pi.add_apply, Finsupp.add_apply, Pi.add_apply, Finsupp.add_apply, sum_tally_off _ (fun t => barC t) _ _ fun t => (bar_ne_agR t c s).symm,
    sum_tally_off _ (fun t => rsRC t d) _ _ fun t => (rsR_ne_agR t d c s).symm]
  refine (Nat.zero_add _).trans ?_
  by_cases h : d = s
  · subst h; rw [if_pos rfl, sum_tally_at _ (fun t => agRC t d) (agR_inj d)]
  · rw [if_neg h, sum_tally_off _ (fun t => agRC t d) _ _ fun t => agR_ne c s t d (Ne.symm h)]

theorem seven_others (c : Dev nD) : (∑ d : Dev nD, if c ∈ others d then 1 else 0) = 7 := by revert c; decide

theorem credit_bar (c : Dev nD) : tallyOn (barC c) (launchCredit (Pipeline.owing O₀) 0 (barC c)) = (tallyAt (barC c) () 7 : CellTallies nD τ sig Unit) := by
  unfold tallyAt; refine congrArg _ (Finsupp.ext fun u => ?_); cases u
  rw [Pipeline.launchCredit_owing, Finsupp.single_eq_same, Finset.sum_congr rfl fun d _ => owed_bar d c, seven_others]
theorem credit_rsR (c s : Dev nD) (h : s ∈ others c) : tallyOn (rsRC c s) (launchCredit (Pipeline.owing O₀) 0 (rsRC c s)) = (tallyAt (rsRC c s) () N : CellTallies nD τ sig Unit) := by
  unfold tallyAt; refine congrArg _ (Finsupp.ext fun u => ?_); cases u
  rw [Pipeline.launchCredit_owing, Finsupp.single_eq_same, Finset.sum_congr rfl fun d _ => owed_rs d c s, Finset.sum_ite_eq' Finset.univ s, if_pos (Finset.mem_univ _),
    if_pos (Finset.mem_erase.mpr ⟨(Finset.mem_erase.mp h).1.symm, Finset.mem_univ _⟩)]
theorem credit_agR (c s : Dev nD) (h : s ∈ others c) : tallyOn (agRC c s) (launchCredit (Pipeline.owing O₀) 0 (agRC c s)) = (tallyAt (agRC c s) () N : CellTallies nD τ sig Unit) := by
  unfold tallyAt; refine congrArg _ (Finsupp.ext fun u => ?_); cases u
  rw [Pipeline.launchCredit_owing, Finsupp.single_eq_same, Finset.sum_congr rfl fun d _ => owed_ag d c s, Finset.sum_ite_eq' Finset.univ s, if_pos (Finset.mem_univ _),
    if_pos (Finset.mem_erase.mpr ⟨(Finset.mem_erase.mp h).1.symm, Finset.mem_univ _⟩)]

/-- The semaphores a device waits on for the others. -/
def waited : Unit ⊕ Fin 8 ⊕ Fin 8 ↪ SemLoc sig where
  toFun | .inl _ => .reg barS | .inr (.inl s) => .dma (rsR s) | .inr (.inr s) => .dma (agR s)
  inj' := by
    rintro (_ | s | s) (_ | t | t) h <;> have e := congrArg role h <;> simp only [role_bar, role_rsR, role_agR] at e <;>
      first | rfl | exact Role.noConfusion e | (cases e; rfl)

theorem launch_creds (c : Dev nD) : (Pipeline.launchCred O₀ c : sProp 𝕄) ⊢ creds c := by
  unfold Pipeline.launchCred creds
  refine (bigSep_subset (Finset.subset_univ (Finset.univ.map waited))).trans ?_
  rw [bigSep_map, BI.bigSep_univ_sum, BI.bigSep_univ_sum, BI.bigSep_univ_of_subsingleton (i := ())]
  show iprop(cred (tallyOn (barC c) (launchCredit (Pipeline.owing O₀) 0 (barC c)))
    ∗ bigSep Finset.univ (fun s : Fin 8 => (cred (tallyOn (rsRC c s) (launchCredit (Pipeline.owing O₀) 0 (rsRC c s))) : sProp 𝕄))
    ∗ bigSep Finset.univ (fun s : Fin 8 => (cred (tallyOn (agRC c s) (launchCredit (Pipeline.owing O₀) 0 (agRC c s))) : sProp 𝕄))) ⊢ _
  rw [credit_bar]
  refine sep_mono_right (BI.sep_mono ?_ ?_)
  · exact (bigSep_subset (Finset.subset_univ (others c))).trans (Entails.of_eq (bigSep_congr fun s hs => by rw [credit_rsR c s hs]))
  · exact (bigSep_subset (Finset.subset_univ (others c))).trans (Entails.of_eq (bigSep_congr fun s hs => by rw [credit_agR c s hs]))

end Credit

/-! ## The cells and the tokens dealt at launch -/

section Deal

def barEmb : Dev nD ↪ GSem nD τ sig := ⟨fun c => barC c, fun _ _ h => dev_of h⟩
theorem scS_inj : Function.Injective scS := by decide
def scEmb : Dev nD × Fin 31 ↪ GSem nD τ sig :=
  ⟨fun ci => scC ci.1 ci.2, fun _ _ h => Prod.ext (dev_of h) (scS_inj (congrArg Prod.snd h))⟩

abbrev barCells : Finset (GSem nD τ sig) := Finset.univ.map barEmb
abbrev scCells : Finset (GSem nD τ sig) := Finset.univ.map scEmb

theorem scS_ne_bar : ∀ i : Fin 31, scS i ≠ .reg barS := by decide
theorem cells_disjoint : Disjoint (barCells : Finset (GSem nD τ sig)) scCells := by
  rw [Finset.disjoint_left]
  rintro g h₁ h₂
  obtain ⟨c, -, rfl⟩ := Finset.mem_map.mp h₁
  obtain ⟨ci, -, h⟩ := Finset.mem_map.mp h₂
  exact scS_ne_bar ci.2 (congrArg Prod.snd h)

/-- The duties, by the device that pays them. -/
abbrev Duty : Type := (Dev nD × Fin 8) ⊕ (Dev nD × Fin 8) ⊕ (Dev nD × Fin 8) ⊕ (Dev nD × Fin 7) ⊕ (Dev nD × Fin 8)

def dutyAt : Duty → GSem nD τ sig × ℕ × D
  | .inl (c, t) => (barC t, 0, c)
  | .inr (.inl (c, t)) => (rsSC c t, 0, 0)
  | .inr (.inr (.inl (c, t))) => (rsRC t c, 0, 0)
  | .inr (.inr (.inr (.inl (c, j)))) => (agSC c j, 0, 0)
  | .inr (.inr (.inr (.inr (c, t)))) => (agRC t c, 0, 0)

def payerOf (d : Dev nD) (e : D) : Role → Duty
  | .bar => .inl (e, d)
  | .rsSend t => .inr (.inl (d, t))
  | .rsRecv s => .inr (.inr (.inl (s, d)))
  | .agSend j => .inr (.inr (.inr (.inl (d, j))))
  | .agRecv s => .inr (.inr (.inr (.inr (s, d))))
  | .off => .inl (e, d)

theorem payer_duty : Function.LeftInverse (fun x : GSem nD τ sig × ℕ × D => payerOf x.1.1.1 x.2.2 (role x.1.2)) dutyAt := by
  rintro (⟨c, t⟩ | ⟨c, t⟩ | ⟨c, t⟩ | ⟨c, t⟩ | ⟨c, t⟩) <;> dsimp only [dutyAt]
  · rw [role_bar]; rfl
  · rw [role_rsS]; rfl
  · rw [role_rsR]; rfl
  · rw [role_agS]; rfl
  · rw [role_agR]; rfl

def duties : Finset (GSem nD τ sig × ℕ × D) := Finset.univ.map ⟨dutyAt, payer_duty.injective⟩

theorem to_others (c : Dev nD) (Φ : Dev nD → sProp 𝕄) : bigSep Finset.univ Φ ⊢ bigSep (others c) Φ := bigSep_subset (Finset.subset_univ _)

theorem deal_one (c : Dev nD) : (iprop(bigSep Finset.univ (fun t : Fin 8 => dutyTok ER (barC t) 0 c)
    ∗ bigSep Finset.univ (fun t : Fin 8 => dutyTok ER (rsSC c t) 0 0)
    ∗ bigSep Finset.univ (fun t : Fin 8 => dutyTok ER (rsRC t c) 0 0)
    ∗ bigSep Finset.univ (fun j : Fin 7 => dutyTok ER (agSC c j) 0 0)
    ∗ bigSep Finset.univ (fun t : Fin 8 => dutyTok ER (agRC t c) 0 0)) : sProp 𝕄) ⊢ toks c := by
  unfold toks sigToks rsToks agToks agSToks
  iintro ⟨H1, H2, H3, H4, H5⟩
  isplitl [H1]; · iapply (to_others c _) $$ H1
  isplitl [H2 H3]
  · iapply (zip_to (others c) (fun t => (dutyTok ER (rsSC c t) 0 0 : sProp 𝕄)) (fun t => (dutyTok ER (rsRC t c) 0 0 : sProp 𝕄))
      (fun t => iprop(dutyTok ER (rsSC c t) 0 0 ∗ dutyTok ER (rsRC t c) 0 0)) fun _ _ => BI.Entails.refl _)
    isplitl [H2]; · iapply (to_others c _) $$ H2
    iapply (to_others c _) $$ H3
  isplitl [H5]; · iapply (to_others c _) $$ H5
  iexact H4

theorem deal_toks : bigSep duties (fun x => (dutyTok ER x.1 x.2.1 x.2.2 : sProp 𝕄)) ⊢ bigSep Finset.univ fun c : Dev nD => toks c := by
  unfold duties
  rw [bigSep_map, BI.bigSep_univ_sum, BI.bigSep_univ_sum, BI.bigSep_univ_sum, BI.bigSep_univ_sum, bigSep_univ_prod, bigSep_univ_prod, bigSep_univ_prod, bigSep_univ_prod, bigSep_univ_prod]
  show iprop(bigSep Finset.univ (fun c : Dev nD => bigSep Finset.univ fun t : Fin 8 => (dutyTok ER (barC t) 0 c : sProp 𝕄))
    ∗ bigSep Finset.univ (fun c : Dev nD => bigSep Finset.univ fun t : Fin 8 => (dutyTok ER (rsSC c t) 0 0 : sProp 𝕄))
    ∗ bigSep Finset.univ (fun c : Dev nD => bigSep Finset.univ fun t : Fin 8 => (dutyTok ER (rsRC t c) 0 0 : sProp 𝕄))
    ∗ bigSep Finset.univ (fun c : Dev nD => bigSep Finset.univ fun j : Fin 7 => (dutyTok ER (agSC c j) 0 0 : sProp 𝕄))
    ∗ bigSep Finset.univ (fun c : Dev nD => bigSep Finset.univ fun t : Fin 8 => (dutyTok ER (agRC t c) 0 0 : sProp 𝕄))) ⊢ _
  rw [← bigSep_sep', ← bigSep_sep', ← bigSep_sep', ← bigSep_sep']
  exact bigSep_mono fun c _ => deal_one c

/-- The launch element: the staging cells' own, and the exchange's. -/
def u₀ : UU :=
  (initOf (Pipeline.cells (Pipeline.pin (pcfgs (F := F)) adm) cellOf_inj) (Pipeline.launchToks (Pipeline.pin (pcfgs (F := F)) adm) cellOf_inj),
    launchOf barCells scCells duties)

/-- Held on device 0 until it is dealt out. -/
def parked (X : sProp 𝕄) (c : Dev nD) : sProp 𝕄 := if c = 0 then X else iprop(emp)
theorem parked_all (X : sProp 𝕄) : bigSep Finset.univ (parked X) = X := by
  rw [take_eq (Finset.mem_univ (0 : Dev nD)), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

def ghost : Dev nD → sProp 𝕄 := parked (BI.own (ER (launchOf barCells scCells duties)))

theorem ghost_intro : (ownU (u₀ (F := F)) : sProp 𝕄)
    ⊢ |={Set.univ}=> iprop(BI.own (EP (initOf (Pipeline.cells cfgs cellOf_inj) (Pipeline.launchToks cfgs cellOf_inj))) ∗ bigSep Finset.univ (ghost (F := F))) := by
  unfold u₀ ghost
  iintro Hu
  ihave H := (ownU_pair _ _) $$ Hu
  icases H with ⟨HP, HX⟩
  imodintro
  isplitl [HP]; · iexact HP
  rw [parked_all]; iexact HX

theorem reassoc (P Q R S : sProp 𝕄) : iprop((P ∗ Q) ∗ R ∗ S) ⊢ iprop(P ∗ Q ∗ R ∗ S) := by
  iintro ⟨⟨H1, H2⟩, H3, H4⟩
  isplitl [H1]; · iexact H1
  isplitl [H2]; · iexact H2
  isplitl [H3] <;> iassumption

theorem inv_of (A : Dev nD → Vec F S512x512 .bf16) (κ : GSem nD τ sig → ℕ) (g : GSem nD τ sig) : (cellInv ER (sched A) (κ g) g : sProp 𝕄) ⊢ inv A g := by
  unfold inv; iintro H; iexists _; iexact H

theorem recs_intro (A : Dev nD → Vec F S512x512 .bf16) (κ : GSem nD τ sig → ℕ) :
    (iprop(bigSep (barCells ∪ scCells) (fun g => cellInv ER (sched A) (κ g) g) ∗ bigSep barCells (fun g => reached ER g 0) ∗ levAts L lv) : sProp 𝕄) ⊢ recs A := by
  have e₁ : (bigSep barCells fun g => cellInv ER (sched A) (κ g) g : sProp 𝕄) ⊢ bigSep Finset.univ fun c : Dev nD => inv A (barC c) := by
    rw [bigSep_map]; exact bigSep_mono fun c _ => inv_of A κ _
  have e₂ : (bigSep scCells fun g => cellInv ER (sched A) (κ g) g : sProp 𝕄) ⊢ bigSep Finset.univ fun ci : Dev nD × Fin 31 => inv A (scC ci.1 ci.2) := by
    rw [bigSep_map]; exact bigSep_mono fun c _ => inv_of A κ _
  have e₃ : (bigSep barCells fun g => reached ER g 0 : sProp 𝕄) ⊢ bigSep Finset.univ fun c : Dev nD => reached ER (barC c) 0 := by
    rw [bigSep_map]; exact BI.Entails.refl _
  unfold recs
  rw [bigSep_union cells_disjoint]
  refine (BI.sep_mono (BI.sep_mono e₁ e₂) (sep_mono_left e₃)).trans ?_
  exact reassoc _ _ _ _

theorem barrier_counter (c : Dev nD) : (unscopedSems0 c : sProp 𝕄) = semVal (barC c) 0 := by
  unfold unscopedSems0
  rw [show (Finset.univ.filter fun sm : SemLoc sig => ¬ sm.isScoped .tc) = {SemLoc.reg barS} from by decide, bigSep_singleton]

variable (m : (ℓ : Loc nD τ sig) → Buf (Elt F) ℓ) (ρ : Dev nD → PrngReg)

/-- What a device brings from launch that needs no dealing. -/
def brought (c : Dev nD) : sProp 𝕄 :=
  iprop(StableHlo.held (c : Thread nD τ) (Pipeline.ucRefs τ sig) (V0 m c) ∗ creds c ∗ owesX c (O₀ c) ∗ ∃ r, prngReg c r)
def share (c : Dev nD) : sProp 𝕄 := iprop(atPos ER (barC c) 0 ∅ 0 ∗ unopened c ∗ toks c)

abbrev first (c : Dev nD) : sProp 𝕄 := iprop(StableHlo.held (c : Thread nD τ) (Pipeline.ucRefs τ sig) (V0 m c) ∗ rides m 0 c)

theorem first_intro (c : Dev nD) : iprop(recs (parts m) ∗ (share c ∗ brought m c)) ⊢ first m c := by
  unfold first share brought
  show _ ⊢ iprop(_ ∗ dealt m c ∗ owesX c (O₀ c) ∗ ∃ r, prngReg c r)
  unfold dealt
  iintro ⟨#HR, ⟨Ha, Ho, HT⟩, Hh, HC, HO, Hp⟩
  isplitl [Hh]; · iexact Hh
  isplitl [Ha Ho HT HC]
  · isplitr; · iexact HR
    isplitl [Ho]; · iexact Ho
    isplitl [Ha]; · iexact Ha
    isplitl [HT] <;> iassumption
  isplitl [HO] <;> iassumption

theorem deal : iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ ghost (F := F) c)) ∗ levAts L lv)
    ⊢ (|={Set.univ}=> bigSep Finset.univ (first m) : sProp 𝕄) := by
  have hcore (c : Dev nD) : iprop(unscopedBufs c (fun b => m ((c.tc : Thread nD τ).loc b)) ∗ unscopedSems0 c
          ∗ owes (c.tc : Thread nD τ) (O₀ c) ∅ ∗ Pipeline.launchCred O₀ c ∗ prngReg c (ρ c) ∗ ghost (F := F) c)
      ⊢ (iprop(brought m c ∗ (semVal (barC c) 0 ∗ ghost c)) : sProp 𝕄) := by
    rw [barrier_counter]
    unfold brought owesX
    rw [← Pipeline.unscopedBufs_held (Ix := Unit) (Name := ℕ) (U := UU) (Lvl := ℕ) c (V0 m c)]
    iintro ⟨Hh, Hb, HO, HC, Hp, HG⟩
    isplitl [Hh HO HC Hp]
    · isplitl [Hh]; · iexact Hh
      isplitl [HC]; · iapply (launch_creds c) $$ HC
      isplitl [HO]; · iexists ∅; iexact HO
      iexists (ρ c); iexact Hp
    isplitl [Hb] <;> iassumption
  have hall : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ ghost (F := F) c))
      ⊢ (bigSep Finset.univ fun c : Dev nD => iprop(brought m c ∗ (semVal (barC c) 0 ∗ ghost c)) : sProp 𝕄) := bigSep_mono fun c _ => hcore c
  iintro ⟨H, #HL⟩
  ihave H := (hall) $$ H
  ihave H := (unzip Finset.univ (brought m) (fun c : Dev nD => iprop(semVal (barC c) 0 ∗ ghost c))) $$ H
  icases H with ⟨HB, H⟩
  ihave H := (unzip Finset.univ (fun c : Dev nD => (semVal (barC c) 0 : sProp 𝕄)) (ghost (F := F))) $$ H
  icases H with ⟨Hv, HG⟩
  ihave HG := (show bigSep Finset.univ (ghost (F := F)) ⊢ BI.own (ER (launchOf barCells scCells duties)) from Entails.of_eq (parked_all _)) $$ HG
  ihave Hv := (show bigSep Finset.univ (fun c : Dev nD => (semVal (barC c) 0 : sProp 𝕄)) ⊢ bigSep barCells (fun g => (semVal g 0 : sProp 𝕄)) from
    Entails.of_eq (bigSep_map (s := Finset.univ) barEmb (Φ := fun g : GSem nD τ sig => (semVal g 0 : sProp 𝕄))).symm) $$ Hv
  imod (Rounds.fund_launch ER (sched (parts m)) cells_disjoint (fun g _ h => h) duties) $$ [Hv HG] with ⟨%κ, -, #HI, #Hr, Ha, Ho, HT⟩
  · isplitl [Hv] <;> iassumption
  imodintro
  ihave Ha := (show bigSep barCells (fun g => (atPos ER g 0 ∅ 0 : sProp 𝕄)) ⊢ bigSep Finset.univ (fun c : Dev nD => (atPos ER (barC c) 0 ∅ 0 : sProp 𝕄)) from
    Entails.of_eq (bigSep_map (s := Finset.univ) barEmb (Φ := fun g : GSem nD τ sig => (atPos ER g 0 ∅ 0 : sProp 𝕄)))) $$ Ha
  ihave Ho := (show bigSep scCells (fun g => (openTok ER g : sProp 𝕄)) ⊢ bigSep Finset.univ (fun c : Dev nD => unopened c) from
    Entails.of_eq (by rw [bigSep_map, bigSep_univ_prod]; rfl)) $$ Ho
  ihave HT := (deal_toks (F := F)) $$ HT
  iapply (bigSep_with_persistent (S := Finset.univ) (R := recs (parts m)) (Φ := fun c => iprop(share c ∗ brought m c)) fun c _ => first_intro m c)
  isplitr
  · iapply (recs_intro (parts m) κ)
    isplitr; · iexact HI
    isplitr; · iexact Hr
    iexact HL
  rw [bigSep_sep']
  isplitr [HB]
  · unfold share
    rw [bigSep_sep', bigSep_sep']
    isplitl [Ha]; · iexact Ha
    isplitl [Ho] <;> iassumption
  iexact HB

end Deal

/-! ## The run -/

section Run

variable (m : (ℓ : Loc nD τ sig) → Buf (Elt F) ℓ) (ρ : Dev nD → PrngReg)

abbrev last (c : Dev nD) : sProp 𝕄 := iprop(StableHlo.held (c : Thread nD τ) (Pipeline.ucRefs τ sig) (V2 m (outs m) c) ∗ semVal (barC c) 0)

/-- What a device's memory holds at the end. -/
def Ends (c : Dev nD) (s : MemSt nD τ sig (Elt F)) : Prop :=
  s.mem ((c.tc : Thread nD τ).loc main_v15) = result m
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)

theorem only_barrier : ∀ sm : SemLoc sig, sm.isScoped .tc = false → sm = .reg barS := by decide

theorem read_end (c : Dev nD) (s' : Phys nD τ sig (Elt F)) : (iprop(last m c ∗ SI s') : sProp 𝕄)
    ⊢ |={Set.univ}=> iprop(⌜Ends m c s'.mem ∧ s'.mem.sem (barC c) = 0⌝ ∗ SI s') := by
  unfold last StableHlo.held
  iintro ⟨⟨Hh, Hb⟩, HSI⟩
  icombine HSI Hb gives %hb
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imodintro
  isplitr
  · ipureintro
    refine ⟨⟨?_, ?_, ?_, ?_, ?_, ?_⟩, by simpa using hb⟩
    · exact (h (Proc.devRef .tc main_v15) (Finset.mem_filter.mpr ⟨StableHlo.devRef_mem_tcRefs main_v15, by decide⟩)).trans (v2_v15 m c)
    · exact (h (Proc.devRef .tc main_arg0) (Finset.mem_filter.mpr ⟨StableHlo.devRef_mem_tcRefs main_arg0, by decide⟩)).trans (V2_main_arg0 m (outs m) c)
    · exact (h (Proc.devRef .tc main_arg1) (Finset.mem_filter.mpr ⟨StableHlo.devRef_mem_tcRefs main_arg1, by decide⟩)).trans (V2_main_arg1 m (outs m) c)
    · exact (h (Proc.devRef .tc main_arg2) (Finset.mem_filter.mpr ⟨StableHlo.devRef_mem_tcRefs main_arg2, by decide⟩)).trans (V2_main_arg2 m (outs m) c)
    · exact (h (Proc.devRef .tc main_arg3) (Finset.mem_filter.mpr ⟨StableHlo.devRef_mem_tcRefs main_arg3, by decide⟩)).trans (V2_main_arg3 m (outs m) c)
    · exact (h (Proc.devRef .tc main_arg4) (Finset.mem_filter.mpr ⟨StableHlo.devRef_mem_tcRefs main_arg4, by decide⟩)).trans (V2_main_arg4 m (outs m) c)
  iexact HSI

set_option backward.isDefEq.respectTransparency.types false in
/-- Every execution ends, with the result on every device, the arguments as launched and every counter at zero. -/
theorem runs : θ_run defs (onTc (τ := τ) (main (F := F))) ⟨m, fun _ => 0, ρ⟩ (fun r => (∀ c : Dev nD, Ends m c r.2) ∧ r.2.sem = fun _ => 0) :=
  Pipeline.θ_run_regions_kit_dev_sems (pcfgs (F := F)) adm (pdats m) () cellOf_inj EP defs₀ 𝒱₀ L lv m ρ main
    (segs m 𝒱₀ L lv (rides m) () (pdats m) (region m))
    (fun c Q => by
      rewrite [main_chain c, Pipeline.Seg.run_eq_chain, show (segs m 𝒱₀ L lv (rides m) () (pdats m) (region m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne (ghost (F := F)) (u₀ (F := F)) ghost_intro
    (T₀ := first m) (Tₙ := last m)
    (hch := fun c => ⟨.rfl, region_pre m c, (region_post m c).trans (by
      show iprop(_ ∗ closed c ∗ owesX c 0) ⊢ iprop(last m c ∗ ∃ W, owes (c : Thread nD τ) (0 : CellTallies nD τ sig Unit) W)
      unfold last closed owesX
      iintro ⟨Hh, Hb, HO⟩
      isplitr [HO]
      · isplitl [Hh] <;> iassumption
      iexact HO)⟩)
    (hinit := deal m ρ)
    (QY := fun c s => Ends m c s ∧ s.sem (barC c) = 0)
    (hfin := read_end m)
    (hQ := fun s h hs => ⟨fun c => (h c).1, sem_eq_zero hs fun c sm hsm => by
      obtain rfl := only_barrier sm hsm
      exact (h c).2⟩)

end Run

end Cert.KernelIdeal.Exchange
-- ==== Proof.Word.lean ====
/-
The program before idealization is, operation for operation, the idealized one, so what `Launch` proves of the second
over any reading of the floats holds of the first.
-/
module

public import proofs.«01_k».proof.Proof.Launch
public import proofs.«01_k».proof.Proof.Gen.Kernel

@[expose] public section

set_option maxRecDepth 65536

noncomputable section

namespace Cert.Kernel.Exchange

open Idealize.ShloMosaic Idealize.SL.Sem

variable {F : FTy → Type} [FloatOps F]

theorem main_eq : Cert.Kernel.main (F := F) = Cert.KernelIdeal.main (F := F) := rfl

theorem bodies_eq : Cert.Kernel.defs₀ (F := F) = Cert.KernelIdeal.defs₀ (F := F) := by
  unfold Cert.Kernel.defs₀ Cert.KernelIdeal.defs₀
  refine congrArg _ (funext fun l => ?_)
  match l with
  | 0 => rfl

theorem defs_eq : Cert.Kernel.defs (F := F) = Cert.KernelIdeal.defs (F := F) := by
  unfold Cert.Kernel.defs Cert.KernelIdeal.defs
  exact congrArg (Pipeline.defs (Cert.KernelIdeal.pcfgs (F := F))) bodies_eq

/-- Every execution ends, with the arguments as launched and every counter at zero. -/
theorem runs (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [defs_eq]
  exact (θ_run (Cert.KernelIdeal.defs (F := F)) _ _).mono (fun r h => ⟨fun c => (h.1 c).2, h.2⟩) (Cert.KernelIdeal.Exchange.runs (F := F) m ρ)

end Cert.Kernel.Exchange
-- ==== Proof.Attention.lean ====
/-
Block-causal attention over the extended reals, as plain sums, and the re-grouping of its last sum by device.
-/
module

public import Idealize.ShloMosaic.PureOps.Ideal.Laws
public import Mathlib.Algebra.BigOperators.Fin
public import Mathlib.Logic.Equiv.Fin.Basic

@[expose] public section

noncomputable section

namespace Cert.Attention

open Idealize.ShloMosaic

/-! ## The mathematics -/

/-- Key `j` lies in the block of query `i` or an earlier one. -/
abbrev seen (i j : Fin 256) : Prop := j.val / 64 ≤ i.val / 64

/-- A score, divided by eight; `-10⁹` where the key is not seen. -/
def score (q k : Fin 256 → Fin 64 → EReal) (i j : Fin 256) : EReal :=
  if seen i j then (∑ d, q i d * k j d) * Ideal.ofBits .f32 0x3E000000#32 else Ideal.ofBits .f32 0xCE6E6B28#32

/-- The largest entry of a row. -/
def rowMax (s : Fin 256 → EReal) : EReal := (Finset.univ : Finset (Fin 256)).fold max (Ideal.ofBits .f32 0xFF800000#32) s

/-- A row's exponentials, shifted by its largest entry. -/
def lifted (s : Fin 256 → EReal) (j : Fin 256) : EReal := Ideal.exp (s j - rowMax s)

/-- A row's weights. -/
def weight (s : Fin 256 → EReal) (j : Fin 256) : EReal := Ideal.div (lifted s j) (∑ l, lifted s l)

/-- One head: the weighted sum of the value rows. -/
def attend (q k v : Fin 256 → Fin 64 → EReal) (i : Fin 256) (d : Fin 64) : EReal :=
  ∑ j, weight (score q k i) j * v j d

/-! ## All heads -/

/-- The column of the concatenated heads at which head `h` has coordinate `d`. -/
abbrev col {n m : Nat} (e : n * 64 = m) (h : Fin n) (d : Fin 64) : Fin m := ⟨h.val * 64 + d.val, by have := h.isLt; have := d.isLt; omega⟩

/-- The head of a column, and its coordinate there. -/
abbrev headOf {n m : Nat} (e : n * 64 = m) (t : Fin m) : Fin n := ⟨t.val / 64, by have := t.isLt; omega⟩
abbrev inHead {m : Nat} (t : Fin m) : Fin 64 := ⟨t.val % 64, Nat.mod_lt _ (by decide)⟩

/-- Column `t` of the concatenated heads, of `n` heads. -/
def context {n m : Nat} (e : n * 64 = m) (x : Fin 2 → Fin 256 → Fin 512 → EReal) (wq : Fin 512 → Fin m → EReal)
    (k v : Fin 2 → Fin 256 → Fin n → Fin 64 → EReal) (b : Fin 2) (i : Fin 256) (t : Fin m) : EReal :=
  attend (fun i d => ∑ l, x b i l * wq l (col e (headOf e t) d)) (fun j d => k b j (headOf e t) d) (fun j d => v b j (headOf e t) d) i (inHead t)

/-- The concatenated heads times the output projection. -/
def project {n m : Nat} (e : n * 64 = m) (x : Fin 2 → Fin 256 → Fin 512 → EReal) (wq : Fin 512 → Fin m → EReal)
    (k v : Fin 2 → Fin 256 → Fin n → Fin 64 → EReal) (wo : Fin m → Fin 512 → EReal) (b : Fin 2) (i : Fin 256) (o : Fin 512) : EReal :=
  ∑ t, context e x wq k v b i t * wo t o

/-- Column `t` of device `c`'s part. -/
abbrev share (c : Fin 8) (t : Fin 256) : Fin 2048 := ⟨c.val * 256 + t.val, by have := c.isLt; have := t.isLt; omega⟩
/-- Head `h` of device `c`'s part. -/
abbrev shareHead (c : Fin 8) (h : Fin 4) : Fin 32 := ⟨c.val * 4 + h.val, by have := c.isLt; have := h.isLt; omega⟩

theorem sum_share (f : Fin 2048 → EReal) : ∑ t, f t = ∑ c : Fin 8, ∑ t : Fin 256, f (share c t) := by
  rw [← Fintype.sum_prod_type' (f := fun c t => f (share c t))]
  refine (Fintype.sum_equiv (finProdFinEquiv (m := 8) (n := 256)) _ _ fun p => ?_).symm
  refine congrArg f (Fin.ext ?_)
  show p.1.val * 256 + p.2.val = p.2.val + 256 * p.1.val
  omega

/-- Every device projecting its own heads, and the eight products added up, is all heads projected. -/
theorem project_split (x : Fin 2 → Fin 256 → Fin 512 → EReal) (wq : Fin 512 → Fin 2048 → EReal)
    (k v : Fin 2 → Fin 256 → Fin 32 → Fin 64 → EReal) (wo : Fin 2048 → Fin 512 → EReal) (b : Fin 2) (i : Fin 256) (o : Fin 512) :
    project (n := 32) rfl x wq k v wo b i o
      = ∑ c : Fin 8, project (n := 4) rfl x (fun l t => wq l (share c t)) (fun b j h d => k b j (shareHead c h) d) (fun b j h d => v b j (shareHead c h) d)
          (fun t o => wo (share c t) o) b i o := by
  unfold project
  rw [sum_share]
  refine Finset.sum_congr rfl fun c _ => Finset.sum_congr rfl fun t _ => ?_
  have eh : headOf (n := 32) rfl (share c t) = shareHead c (headOf (n := 4) rfl t) := Fin.ext (by
    show (c.val * 256 + t.val) / 64 = c.val * 4 + t.val / 64; omega)
  have ei : inHead (share c t) = inHead t := Fin.ext (by
    show (c.val * 256 + t.val) % 64 = t.val % 64; omega)
  have ec (d : Fin 64) : col (n := 32) rfl (shareHead c (headOf (n := 4) rfl t)) d = share c (col (n := 4) rfl (headOf (n := 4) rfl t) d) := Fin.ext (by
    show (c.val * 4 + t.val / 64) * 64 + d.val = c.val * 256 + (t.val / 64 * 64 + d.val); omega)
  unfold context
  rw [eh, ei]
  simp only [ec]

end Cert.Attention
-- ==== Proof.Head.lean ====
/-
The kernel's matrix products and one of its heads, read at an index over the extended reals.
-/
module

public import proofs.«01_k».proof.Proof.Facts
public import proofs.«01_k».proof.Proof.Attention
public import Idealize.ShloMosaic.Lib.Pipeline.Value
public import Idealize.ShloMosaic.Lib.ValueIdx
public import Idealize.ShloMosaic.PureOps.Ideal.Laws

@[expose] public section

noncomputable section

namespace Cert.KernelIdeal.Exchange

open Cert.KernelIdeal Cert.KernelIdeal.Gen
open Idealize.ShloMosaic Idealize.ShloMosaic.ValueIdx Cert.Attention

/-- A two-axis array as a function of its two coordinates. -/
abbrev two {n m : Nat} (f : (⟨2, ![n, m]⟩ : Shape).Idx → EReal) (i : Fin n) (j : Fin m) : EReal := f (ix2 i j)

/-! ## Products read at an index -/

theorem dotT_apply (A B : FVec Ideal S256x64 .bf16) (i j : Fin 256) :
    matmul dot_S256x64_S256x64_S256x256_1_1_0_0_n_n none A B (constant S256x256 .f32 0x00000000#32) (ix2 i j)
      = ∑ k : Fin 64, A (ix2 i k) * B (ix2 j k) := by
  simp only [matmul]
  rw [Ideal.matmul_constant_zero_apply, ← Equiv.sum_comp (contrEquiv1 dot_S256x64_S256x64_S256x256_1_1_0_0_n_n 64 rfl rfl).symm]
  refine Finset.sum_congr rfl fun k _ => ?_
  have hk := contrEquiv1_symm_val dot_S256x64_S256x64_S256x256_1_1_0_0_n_n 64 rfl rfl k
  congr 2
  · funext a; apply Fin.ext; match a with
    | ⟨0, _⟩ => rfl
    | ⟨1, _⟩ => exact hk
  · funext a; apply Fin.ext; match a with
    | ⟨0, _⟩ => rfl
    | ⟨1, _⟩ => exact hk

theorem dotV_apply (A : FVec Ideal S256x256 .bf16) (B : FVec Ideal S256x64 .bf16) (i : Fin 256) (j : Fin 64) :
    matmul dot_S256x256_S256x64_S256x64_1_0_0_1_n_n none A B (constant S256x64 .f32 0x00000000#32) (ix2 i j)
      = ∑ k : Fin 256, A (ix2 i k) * B (ix2 k j) := by
  simp only [matmul]
  rw [Ideal.matmul_constant_zero_apply, ← Equiv.sum_comp (contrEquiv1 dot_S256x256_S256x64_S256x64_1_0_0_1_n_n 256 rfl rfl).symm]
  refine Finset.sum_congr rfl fun k _ => ?_
  have hk := contrEquiv1_symm_val dot_S256x256_S256x64_S256x64_1_0_0_1_n_n 256 rfl rfl k
  congr 2
  · funext a; apply Fin.ext; match a with
    | ⟨0, _⟩ => rfl
    | ⟨1, _⟩ => exact hk
  · funext a; apply Fin.ext; match a with
    | ⟨0, _⟩ => exact hk
    | ⟨1, _⟩ => rfl

theorem dotO_apply (A : FVec Ideal S256x256 .bf16) (B : FVec Ideal S256x512 .bf16) (i : Fin 256) (j : Fin 512) :
    matmul dot_S256x256_S256x512_S256x512_1_0_0_1_n_n none A B (constant S256x512 .f32 0x00000000#32) (ix2 i j)
      = ∑ k : Fin 256, A (ix2 i k) * B (ix2 k j) := by
  simp only [matmul]
  rw [Ideal.matmul_constant_zero_apply, ← Equiv.sum_comp (contrEquiv1 dot_S256x256_S256x512_S256x512_1_0_0_1_n_n 256 rfl rfl).symm]
  refine Finset.sum_congr rfl fun k _ => ?_
  have hk := contrEquiv1_symm_val dot_S256x256_S256x512_S256x512_1_0_0_1_n_n 256 rfl rfl k
  congr 2
  · funext a; apply Fin.ext; match a with
    | ⟨0, _⟩ => rfl
    | ⟨1, _⟩ => exact hk
  · funext a; apply Fin.ext; match a with
    | ⟨0, _⟩ => exact hk
    | ⟨1, _⟩ => rfl

theorem dotQ_apply (A : FVec Ideal S512x512 .bf16) (B : FVec Ideal S512x256 .bf16) (i : Fin 512) (j : Fin 256) :
    matmul dot_S512x512_S512x256_S512x256_1_0_0_1_n_n none A B (constant S512x256 .f32 0x00000000#32) (ix2 i j)
      = ∑ k : Fin 512, A (ix2 i k) * B (ix2 k j) := by
  simp only [matmul]
  rw [Ideal.matmul_constant_zero_apply, ← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  congr 2
  · funext a; apply Fin.ext; match a with
    | ⟨0, _⟩ => rfl
    | ⟨1, _⟩ => exact hk
  · funext a; apply Fin.ext; match a with
    | ⟨0, _⟩ => exact hk
    | ⟨1, _⟩ => rfl

/-! ## One head of the kernel -/

variable {F : FTy → Type} [FloatOps F]

/-- Masked scores. -/
def scoresK (M : IVec S256x256 1) (Q K : FVec F S256x64 .bf16) : FVec F S256x256 .f32 :=
  select M (mulf (matmul dot_S256x64_S256x64_S256x256_1_1_0_0_n_n none Q K (constant S256x256 .f32 0x00000000#32)) (broadcast S256x256 (Scalar.ofBits .f32 0x3E000000#32)))
    (broadcast S256x256 (Scalar.ofBits .f32 0xCE6E6B28#32))

/-- One number per row, along the row. -/
def alongRow (r : FVec F S256 .f32) : FVec F S256x256 .f32 :=
  broadcastTo S256x256 (shapeCast S256x1 r shapeCasts_S256_S256x1) broadcasts_S256x1_S256x256

/-- The rows' largest entries. -/
def maxK (s : FVec F S256x256 .f32) : FVec F S256 .f32 := multiReduction .maximumf [1] S256 s 0xFF800000#32 reduces_S256x256_S256 (.inl rfl) rfl

def expK (s : FVec F S256x256 .f32) : FVec F S256x256 .f32 := exp (subf s (alongRow (maxK s)))

/-- The weights. -/
def weightsK (s : FVec F S256x256 .f32) : FVec F S256x256 .bf16 :=
  truncf .bf16 (divf (expK s) (alongRow (multiReduction .add [1] S256 (expK s) 0x00000000#32 reduces_S256x256_S256 (.inl rfl) rfl))) bitsLt_bf16_f32

/-- One head. -/
def headK (M : IVec S256x256 1) (Q K V : FVec F S256x64 .bf16) : FVec F S256x64 .f32 :=
  matmul dot_S256x256_S256x64_S256x64_1_0_0_1_n_n none (weightsK (scoresK M Q K)) V (constant S256x64 .f32 0x00000000#32)

theorem alongRow_apply (r : FVec Ideal S256 .f32) (i j : Fin 256) : alongRow r (ix2 i j) = r (ix1 i) := by
  unfold alongRow
  rw [broadcastTo_apply _ _ (ix2 i j) (ix2 i (0 : Fin 1)) (fun a => match a with
    | ⟨0, _⟩ => rfl
    | ⟨1, _⟩ => rfl)]
  exact shapeCast_apply r shapeCasts_S256_S256x1 _ (ix1 i) (by
    rw [Shape.rowMajor_val_one, Shape.rowMajor_val_two]
    show i.val = i.val * 1 + 0
    omega)

theorem lift_row (i : Fin 256) (k : Fin (S256x256.size 1)) :
    (reduces_S256x256_S256 : S256x256.Reduces [1] S256).lift (ix1 i) k = ix2 i (k : Fin 256) := by
  funext a; apply Fin.ext; match a with
  | ⟨0, _⟩ => rfl
  | ⟨1, _⟩ => rfl

theorem maxK_apply (s : FVec Ideal S256x256 .f32) (i : Fin 256) : maxK s (ix1 i) = rowMax (two s i) := by
  unfold maxK
  refine (Ideal.multiReduction_maximumf_single s _ reduces_S256x256_S256 (.inl rfl) rfl (ix1 i)).trans ?_
  unfold rowMax
  have : (s ∘ (reduces_S256x256_S256 : S256x256.Reduces [1] S256).lift (ix1 i)) = two s i :=
    funext fun k => congrArg s (lift_row i k)
  rw [this]; rfl

theorem expK_apply (s : FVec Ideal S256x256 .f32) (i j : Fin 256) : expK s (ix2 i j) = lifted (two s i) j := by
  show Ideal.exp (s (ix2 i j) - alongRow (maxK s) (ix2 i j)) = _
  rw [alongRow_apply, maxK_apply]; rfl

theorem weightsK_apply (s : FVec Ideal S256x256 .f32) (i j : Fin 256) : weightsK s (ix2 i j) = weight (two s i) j := by
  show Ideal.div (expK s (ix2 i j)) (alongRow (F := Ideal) (multiReduction .add [1] S256 (expK s) 0x00000000#32 reduces_S256x256_S256 (.inl rfl) rfl) (ix2 i j)) = _
  rw [alongRow_apply, expK_apply]
  unfold weight
  refine congrArg (Ideal.div _) ?_
  refine (Ideal.multiReduction_add_single (expK s) _ reduces_S256x256_S256 (.inl rfl) rfl (ix1 i)).trans ?_
  refine Finset.sum_congr rfl fun k _ => ?_
  exact (congrArg (expK s) (lift_row i k)).trans (expK_apply s i k)

theorem scoresK_apply (M : IVec S256x256 1) (hM : ∀ i j : Fin 256, M (ix2 i j) = 1#1 ↔ seen i j) (Q K : FVec Ideal S256x64 .bf16) (i j : Fin 256) :
    scoresK M Q K (ix2 i j) = score (two Q) (two K) i j := by
  unfold scoresK score
  rw [select_apply]
  by_cases h : seen i j
  · rw [if_pos h, (hM i j).2 h, select_one]
    show matmul dot_S256x64_S256x64_S256x256_1_1_0_0_n_n none Q K (constant S256x256 .f32 0x00000000#32) (ix2 i j) * _ = _
    rw [dotT_apply]; rfl
  · rw [if_neg h]
    have : M (ix2 i j) = 0#1 := by
      have := mt (hM i j).1 h
      revert this; generalize M (ix2 i j) = b; revert b; decide
    rw [this, select_zero]; rfl

theorem headK_apply (M : IVec S256x256 1) (hM : ∀ i j : Fin 256, M (ix2 i j) = 1#1 ↔ seen i j) (Q K V : FVec Ideal S256x64 .bf16) (i : Fin 256) (d : Fin 64) :
    headK M Q K V (ix2 i d) = attend (two Q) (two K) (two V) i d := by
  unfold headK attend
  rw [dotV_apply]
  refine Finset.sum_congr rfl fun j _ => ?_
  rw [weightsK_apply]
  have : two (scoresK M Q K) i = score (two Q) (two K) i := funext fun l => scoresK_apply M hM Q K i l
  rw [this]

/-! ## The mask -/

theorem iota_row (i j : Fin 256) : iota .tc S256x256 32 [0] iota_S256x256_d0_w32 (ix2 i j) = BitVec.ofNat 32 i.val := iota_single_apply ..
theorem iota_col (i j : Fin 256) : iota .tc S256x256 32 [1] iota_S256x256_d1_w32 (ix2 i j) = BitVec.ofNat 32 j.val := iota_single_apply ..

end Cert.KernelIdeal.Exchange
-- ==== Proof.Device.lean ====
/-
What one device computes, and the sum the devices exchange their way to, as the sums of `Attention`.
-/
module

public import proofs.«01_k».proof.Proof.Head
public import proofs.«01_k».proof.Proof.BodyC

@[expose] public section

noncomputable section

namespace Cert.KernelIdeal.Exchange

open Cert.KernelIdeal Cert.KernelIdeal.Gen
open Idealize.ShloMosaic Idealize.ShloMosaic.ValueIdx Cert.Attention

/-! ## The mask -/

section Mask

/-- The block of an index, as the kernel's words compute it: a quotient of 64, rounded down. -/
def blockWord (w : BitVec 32) : BitVec 32 :=
  Scalar.select (IntOp.andi (IntOp.cmpi .ne (IntOp.subi (BitVec.setWidth 32 (IntOp.cmpi .sgt w 0#32)) (BitVec.setWidth 32 (IntOp.cmpi .slt w 0#32)))
      (Scalar.subi (Scalar.extui (Scalar.cmpi .sgt 64#32 0#32)) (Scalar.extui (Scalar.cmpi .slt 64#32 0#32))))
    (IntOp.cmpi .ne (IntOp.remsi .vector w 64#32) 0#32)) (IntOp.subi (IntOp.divsi .vector w 64#32) 1#32) (IntOp.divsi .vector w 64#32)

theorem blockWord_eq (i : Fin 256) : blockWord (BitVec.ofNat 32 i.val) = BitVec.ofNat 32 (i.val / 64) := by
  revert i; decide +kernel

theorem mask_word (i j : Fin 256) : Inp.mask (ix2 i j) = IntOp.cmpi .sle (blockWord (BitVec.ofNat 32 j.val)) (blockWord (BitVec.ofNat 32 i.val)) := by
  rw [← iota_row i j, ← iota_col i j]; rfl

theorem sle_word (a b : Fin 4) : IntOp.cmpi .sle (BitVec.ofNat 32 a.val) (BitVec.ofNat 32 b.val) = 1#1 ↔ a.val ≤ b.val := by
  revert a b; decide +kernel

theorem mask_seen (i j : Fin 256) : Inp.mask (ix2 i j) = 1#1 ↔ seen i j := by
  rw [mask_word, blockWord_eq, blockWord_eq]
  exact sle_word ⟨j.val / 64, by omega⟩ ⟨i.val / 64, by omega⟩

end Mask

/-! ## One device's heads -/

section Heads

variable {F : FTy → Type} [FloatOps F] (I : Inp F)

/-- The kernel's head at an offset of the query, key and value arrays. -/
def headAt (off : Fin 4 → Nat) (hs : S2x256x4x64.Slices off S1x256x1x64) (inb : ∀ a, off a + S1x256x1x64.size a ≤ S2x256x4x64.size a) : FVec F S256x64 .f32 :=
  headK Inp.mask (shapeCast S256x64 (extractStridedSlice S1x256x1x64 off I.q hs) shapeCasts_S1x256x1x64_S256x64)
    (shapeCast S256x64 (cut inb I.k) shapeCasts_S1x256x1x64_S256x64) (shapeCast S256x64 (cut inb I.v) shapeCasts_S1x256x1x64_S256x64)

/-- Four heads side by side, times the output projection. -/
def outK (wo : FVec F S256x512 .bf16) (h₀ h₁ h₂ h₃ : FVec F S256x64 .f32) : FVec F S256x512 .bf16 :=
  truncf .bf16 (matmul dot_S256x256_S256x512_S256x512_1_0_0_1_n_n none
    (truncf .bf16 (concatenate S256x256 1 [⟨S256x64, h₀⟩, ⟨S256x64, h₁⟩, ⟨S256x64, h₂⟩, ⟨S256x64, h₃⟩] concatenates_S256x64_S256x64_S256x64_S256x64_S256x256_d1) bitsLt_bf16_f32)
    (shapeCast S256x512 wo shapeCasts_S256x512_S256x512) (constant S256x512 .f32 0x00000000#32)) bitsLt_bf16_f32

theorem lowK_eq : I.low = outK I.wo
    (headAt I ![0, 0, 0, 0] slices_S2x256x4x64_o0_0_0_0_S1x256x1x64 inb_S2x256x4x64_S1x256x1x64_0_0_0_0)
    (headAt I ![0, 0, 1, 0] slices_S2x256x4x64_o0_0_1_0_S1x256x1x64 inb_S2x256x4x64_S1x256x1x64_0_0_1_0)
    (headAt I ![0, 0, 2, 0] slices_S2x256x4x64_o0_0_2_0_S1x256x1x64 inb_S2x256x4x64_S1x256x1x64_0_0_2_0)
    (headAt I ![0, 0, 3, 0] slices_S2x256x4x64_o0_0_3_0_S1x256x1x64 inb_S2x256x4x64_S1x256x1x64_0_0_3_0) :=
  (show _ = shapeCast S256x512 (outK I.wo _ _ _ _) shapeCasts_S256x512_S256x512 from rfl).trans (shapeCast_self _ _)

theorem highK_eq : I.high = outK I.wo
    (headAt I ![1, 0, 0, 0] slices_S2x256x4x64_o1_0_0_0_S1x256x1x64 inb_S2x256x4x64_S1x256x1x64_1_0_0_0)
    (headAt I ![1, 0, 1, 0] slices_S2x256x4x64_o1_0_1_0_S1x256x1x64 inb_S2x256x4x64_S1x256x1x64_1_0_1_0)
    (headAt I ![1, 0, 2, 0] slices_S2x256x4x64_o1_0_2_0_S1x256x1x64 inb_S2x256x4x64_S1x256x1x64_1_0_2_0)
    (headAt I ![1, 0, 3, 0] slices_S2x256x4x64_o1_0_3_0_S1x256x1x64 inb_S2x256x4x64_S1x256x1x64_1_0_3_0) :=
  (show _ = shapeCast S256x512 (outK I.wo _ _ _ _) shapeCasts_S256x512_S256x512 from rfl).trans (shapeCast_self _ _)

end Heads

/-! ## Read at an index -/

section Read

theorem slice_apply {α : Type} (f : S2x256x4x64.Idx → α) {off : Fin 4 → Nat} (hs : S2x256x4x64.Slices off S1x256x1x64) (b : Fin 2) (h : Fin 4)
    (ho : off = ![b.val, 0, h.val, 0]) (i : Fin 256) (d : Fin 64) :
    shapeCast S256x64 (extractStridedSlice S1x256x1x64 off f hs) shapeCasts_S1x256x1x64_S256x64 (ix2 i d) = f (ix4 b i h d) := by
  subst ho
  rw [shapeCast_apply _ _ _ (ix4 (0 : Fin 1) i (0 : Fin 1) d) (by
    rw [Shape.rowMajor_val_four, Shape.rowMajor_val_two]
    show ((0 * 256 + i.val) * 1 + 0) * 64 + d.val = i.val * 64 + d.val
    omega)]
  exact extractStridedSlice_apply _ f hs _ (ix4 b i h d) (fun a => match a with
    | ⟨0, _⟩ => rfl
    | ⟨1, _⟩ => by show i.val = 0 + i.val; omega
    | ⟨2, _⟩ => rfl
    | ⟨3, _⟩ => by show d.val = 0 + d.val; omega)

theorem cut_apply (f : Vec Ideal S2x256x4x64 .bf16) {off : Fin 4 → Nat} (inb : ∀ a, off a + S1x256x1x64.size a ≤ S2x256x4x64.size a) (b : Fin 2) (h : Fin 4)
    (ho : off = ![b.val, 0, h.val, 0]) (i : Fin 256) (d : Fin 64) :
    shapeCast S256x64 (cut inb f) shapeCasts_S1x256x1x64_S256x64 (ix2 i d) = f (ix4 b i h d) := by
  subst ho
  rw [shapeCast_apply _ _ _ (ix4 (0 : Fin 1) i (0 : Fin 1) d) (by
    rw [Shape.rowMajor_val_four, Shape.rowMajor_val_two]
    show ((0 * 256 + i.val) * 1 + 0) * 64 + d.val = i.val * 64 + d.val
    omega)]
  refine congrArg f (funext fun a => Fin.ext ?_)
  rw [Rect.emb_apply]
  match a with
  | ⟨0, _⟩ => rfl
  | ⟨1, _⟩ => show 0 + 1 * i.val = i.val; omega
  | ⟨2, _⟩ => rfl
  | ⟨3, _⟩ => show 0 + 1 * d.val = d.val; omega

variable (I : Inp Ideal)

theorem q_apply (b : Fin 2) (i : Fin 256) (h : Fin 4) (d : Fin 64) :
    I.q (ix4 b i h d) = ∑ l : Fin 512, I.x (ix3 b i l) * I.wq (ix2 l (col (n := 4) rfl h d)) := by
  have r : b.val * 256 + i.val < 512 := by omega
  have e : I.q = truncf .bf16 (shapeCast S2x256x4x64 (matmul dot_S512x512_S512x256_S512x256_1_0_0_1_n_n none
      (shapeCast S512x512 (shapeCast S2x256x512 I.x shapeCasts_S2x256x512_S2x256x512) shapeCasts_S2x256x512_S512x512)
      (shapeCast S512x256 I.wq shapeCasts_S512x256_S512x256) (constant S512x256 .f32 0x00000000#32)) shapeCasts_S512x256_S2x256x4x64) bitsLt_bf16_f32 := rfl
  rw [e, truncf_apply, shapeCast_self, shapeCast_self]
  refine (shapeCast_apply _ _ _ (ix2 (⟨b.val * 256 + i.val, r⟩ : Fin 512) (col (n := 4) rfl h d)) (by
    rw [Shape.rowMajor_val_four, Shape.rowMajor_val_two]
    show (b.val * 256 + i.val) * 256 + (h.val * 64 + d.val) = ((b.val * 256 + i.val) * 4 + h.val) * 64 + d.val
    omega)).trans ?_
  rw [dotQ_apply]
  refine Finset.sum_congr rfl fun l _ => ?_
  refine congrArg (· * _) ?_
  exact shapeCast_apply _ _ _ (ix3 b i l) (by
    rw [Shape.rowMajor_val_three, Shape.rowMajor_val_two]
    rfl)

/-- The head of batch `b` and number `h` of what the device is given. -/
def headOfInp (b : Fin 2) (h : Fin 4) : Fin 256 → Fin 64 → EReal :=
  attend (fun i d => ∑ l : Fin 512, I.x (ix3 b i l) * I.wq (ix2 l (col (n := 4) rfl h d))) (fun j d => I.k (ix4 b j h d)) (fun j d => I.v (ix4 b j h d))

theorem headAt_apply {off : Fin 4 → Nat} (hs : S2x256x4x64.Slices off S1x256x1x64) (inb : ∀ a, off a + S1x256x1x64.size a ≤ S2x256x4x64.size a)
    (b : Fin 2) (h : Fin 4) (ho : off = ![b.val, 0, h.val, 0]) (i : Fin 256) (d : Fin 64) :
    headAt I off hs inb (ix2 i d) = headOfInp I b h i d := by
  unfold headAt headOfInp
  rw [headK_apply _ mask_seen]
  congr 1
  · funext i d; exact (slice_apply I.q hs b h ho i d).trans (q_apply I b i h d)
  · funext i d; exact cut_apply I.k inb b h ho i d
  · funext i d; exact cut_apply I.v inb b h ho i d

theorem join_apply (h : Fin 4 → FVec Ideal S256x64 .f32) (i t : Fin 256) :
    concatenate S256x256 1 [⟨S256x64, h 0⟩, ⟨S256x64, h 1⟩, ⟨S256x64, h 2⟩, ⟨S256x64, h 3⟩] concatenates_S256x64_S256x64_S256x64_S256x64_S256x256_d1 (ix2 i t)
      = h (headOf (n := 4) rfl t) (ix2 i (inHead t)) := by
  obtain ⟨k, hk⟩ : ∃ k : Fin 4, headOf (n := 4) rfl t = k := ⟨_, rfl⟩
  rw [hk]
  have hv : t.val / 64 = k.val := congrArg Fin.val hk
  refine concatenate_apply_piece (1 : Fin S256x256.rank) _ _ (ix2 i t) k.val (by have := k.isLt; simpa using this) S256x64 (h k) ?_ rfl (k.val * 64) ?_ (ix2 i (inHead t)) ?_ ?_
  · match k with
    | 0 => rfl
    | 1 => rfl
    | 2 => rfl
    | 3 => rfl
  · match k with
    | 0 => rfl
    | 1 => rfl
    | 2 => rfl
    | 3 => rfl
  · intro b hb
    match b with
    | ⟨0, _⟩ => rfl
    | ⟨1, _⟩ => exact absurd rfl hb
  · show k.val * 64 + t.val % 64 = t.val
    omega

theorem outK_apply (wo : FVec Ideal S256x512 .bf16) (h : Fin 4 → FVec Ideal S256x64 .f32) (i : Fin 256) (o : Fin 512) :
    outK wo (h 0) (h 1) (h 2) (h 3) (ix2 i o) = ∑ t : Fin 256, h (headOf (n := 4) rfl t) (ix2 i (inHead t)) * wo (ix2 t o) := by
  unfold outK
  rw [truncf_apply, shapeCast_self]
  refine (dotO_apply _ _ i o).trans (Finset.sum_congr rfl fun t _ => ?_)
  exact congrArg (· * _) (join_apply h i t)

/-- The device's share of the result, of one row and column. -/
def shareOf (b : Fin 2) (i : Fin 256) (o : Fin 512) : EReal :=
  project (n := 4) rfl (fun b i l => I.x (ix3 b i l)) (fun l t => I.wq (ix2 l t)) (fun b j h d => I.k (ix4 b j h d)) (fun b j h d => I.v (ix4 b j h d))
    (fun t o => I.wo (ix2 t o)) b i o

theorem low_apply (i : Fin 256) (o : Fin 512) : I.low (ix2 i o) = shareOf I 0 i o := by
  rw [lowK_eq]
  refine (outK_apply I.wo (fun h => match h with
    | 0 => headAt I ![0, 0, 0, 0] slices_S2x256x4x64_o0_0_0_0_S1x256x1x64 inb_S2x256x4x64_S1x256x1x64_0_0_0_0
    | 1 => headAt I ![0, 0, 1, 0] slices_S2x256x4x64_o0_0_1_0_S1x256x1x64 inb_S2x256x4x64_S1x256x1x64_0_0_1_0
    | 2 => headAt I ![0, 0, 2, 0] slices_S2x256x4x64_o0_0_2_0_S1x256x1x64 inb_S2x256x4x64_S1x256x1x64_0_0_2_0
    | 3 => headAt I ![0, 0, 3, 0] slices_S2x256x4x64_o0_0_3_0_S1x256x1x64 inb_S2x256x4x64_S1x256x1x64_0_0_3_0) i o).trans ?_
  refine Finset.sum_congr rfl fun t _ => congrArg (· * _) ?_
  show _ = headOfInp I 0 (headOf (n := 4) rfl t) i (inHead t)
  generalize headOf (n := 4) rfl t = h
  match h with
  | 0 => exact headAt_apply I _ _ 0 0 rfl i _
  | 1 => exact headAt_apply I _ _ 0 1 rfl i _
  | 2 => exact headAt_apply I _ _ 0 2 rfl i _
  | 3 => exact headAt_apply I _ _ 0 3 rfl i _

theorem high_apply (i : Fin 256) (o : Fin 512) : I.high (ix2 i o) = shareOf I 1 i o := by
  rw [highK_eq]
  refine (outK_apply I.wo (fun h => match h with
    | 0 => headAt I ![1, 0, 0, 0] slices_S2x256x4x64_o1_0_0_0_S1x256x1x64 inb_S2x256x4x64_S1x256x1x64_1_0_0_0
    | 1 => headAt I ![1, 0, 1, 0] slices_S2x256x4x64_o1_0_1_0_S1x256x1x64 inb_S2x256x4x64_S1x256x1x64_1_0_1_0
    | 2 => headAt I ![1, 0, 2, 0] slices_S2x256x4x64_o1_0_2_0_S1x256x1x64 inb_S2x256x4x64_S1x256x1x64_1_0_2_0
    | 3 => headAt I ![1, 0, 3, 0] slices_S2x256x4x64_o1_0_3_0_S1x256x1x64 inb_S2x256x4x64_S1x256x1x64_1_0_3_0) i o).trans ?_
  refine Finset.sum_congr rfl fun t _ => congrArg (· * _) ?_
  show _ = headOfInp I 1 (headOf (n := 4) rfl t) i (inHead t)
  generalize headOf (n := 4) rfl t = h
  match h with
  | 0 => exact headAt_apply I _ _ 1 0 rfl i _
  | 1 => exact headAt_apply I _ _ 1 1 rfl i _
  | 2 => exact headAt_apply I _ _ 1 2 rfl i _
  | 3 => exact headAt_apply I _ _ 1 3 rfl i _

/-- Row `i` of batch `b` among all rows. -/
abbrev rowAt (b : Fin 2) (i : Fin 256) : Fin 512 := ⟨b.val * 256 + i.val, by have := b.isLt; have := i.isLt; omega⟩

theorem halfLoc_row (b : Fin 2) (i : Fin 256) (o : Fin 512) : halfLoc (ix2 (rowAt b i) o) = ix2 i o := by
  funext a; apply Fin.ext; match a with
  | ⟨0, _⟩ => show (b.val * 256 + i.val) % 256 = i.val; omega
  | ⟨1, _⟩ => rfl

theorem halfOf_row (b : Fin 2) (i : Fin 256) (o : Fin 512) : halfOf (ix2 (rowAt b i) o) = b :=
  Fin.ext (by show (b.val * 256 + i.val) / 256 = b.val; omega)

theorem partial_apply (b : Fin 2) (i : Fin 256) (o : Fin 512) : I.partial (ix2 (rowAt b i) o) = shareOf I b i o := by
  unfold Inp.partial
  rw [halfOf_row, halfLoc_row]
  match b with
  | 0 => rw [if_pos rfl]; exact low_apply I i o
  | 1 => rw [if_neg (by decide)]; exact high_apply I i o

end Read

/-! ## The sum over the devices -/

section Sum

variable (A : Dev nD → Vec Ideal S512x512 .bf16)

/-- A summed segment adds up what the devices hold of its rows. -/
theorem summed_apply (s : Fin 8) (r : Fin 64) (o : Fin 512) :
    summed A s (ix2 r o) = ∑ c : Fin 8, A c ((segR s).emb (ix2 r o)) := by
  have e : summed A s = shapeCast S64x512 (truncf .bf16 (multiReduction .add [0] S64x512 (shapeCast S8x64x512 (extf .f32 (rsC A s) bitsLt_bf16_f32) shapeCasts_S512x512_S8x64x512)
      0x00000000#32 reduces_S8x64x512_S64x512 (.inl rfl) rfl) bitsLt_bf16_f32) shapeCasts_S64x512_S64x512 := rfl
  rw [e, shapeCast_self, truncf_apply]
  refine (Ideal.multiReduction_add_single _ _ reduces_S8x64x512_S64x512 (.inl rfl) rfl (ix2 r o)).trans ?_
  have each : ∀ c : Fin 8, shapeCast S8x64x512 (extf .f32 (rsC A s) bitsLt_bf16_f32) shapeCasts_S512x512_S8x64x512 (ix3 c r o) = A c ((segR s).emb (ix2 r o)) := fun c => by
    refine (shapeCast_apply _ _ _ (ix2 (⟨64 * c.val + r.val, by omega⟩ : Fin 512) o) (by
      rw [Shape.rowMajor_val_two, Shape.rowMajor_val_three]
      show (64 * c.val + r.val) * 512 + o.val = (c.val * 64 + r.val) * 512 + o.val
      omega)).trans ?_
    have hc : segOf (ix2 (⟨64 * c.val + r.val, by omega⟩ : Fin 512) o) = c := Fin.ext (by show (64 * c.val + r.val) / 64 = c.val; omega)
    have hl : locOf (ix2 (⟨64 * c.val + r.val, by omega⟩ : Fin 512) o) = ix2 r o := by
      funext a; apply Fin.ext; match a with
      | ⟨0, _⟩ => show (64 * c.val + r.val) % 64 = r.val; omega
      | ⟨1, _⟩ => rfl
    show rsC A s _ = _
    unfold rsC
    rw [hc, hl]
  refine Finset.sum_congr rfl fun c _ => (congrArg _ ?_).trans (each c)
  funext a; match a with
  | ⟨0, _⟩ => rfl
  | ⟨1, _⟩ => rfl
  | ⟨2, _⟩ => rfl

theorem outC_apply (b : Fin 2) (i : Fin 256) (o : Fin 512) :
    outC A (ix3 b i o) = ∑ c : Fin 8, A c (ix2 (rowAt b i) o) := by
  have e : outC A = shapeCast S2x256x512 (agC A) shapeCasts_S512x512_S2x256x512 := rfl
  rw [e, shapeCast_apply _ _ _ (ix2 (rowAt b i) o) (by
    rw [Shape.rowMajor_val_two, Shape.rowMajor_val_three]; rfl)]
  have hl : locOf (ix2 (rowAt b i) o) = ix2 (⟨(rowAt b i).val % 64, Nat.mod_lt _ (by decide)⟩ : Fin 64) o := by
    funext a; match a with
    | ⟨0, _⟩ => rfl
    | ⟨1, _⟩ => rfl
  unfold agC
  rw [hl, summed_apply]
  refine Finset.sum_congr rfl fun c _ => congrArg (A c) (funext fun a => Fin.ext ?_)
  match a with
  | ⟨0, _⟩ =>
    refine (segR_emb_zero _ _).trans ?_
    show 64 * ((rowAt b i).val / 64) + (rowAt b i).val % 64 = (rowAt b i).val
    omega
  | ⟨1, _⟩ => exact segR_emb_one _ _

end Sum

end Cert.KernelIdeal.Exchange
-- ==== Proof.Given.lean ====
/-
What each device cuts out of the projections, and the devices' sum as the whole computation.
-/
module

public import proofs.«01_k».proof.Proof.Device
public import proofs.«01_k».proof.Proof.Region
public import Idealize.ShloMosaic.Lib.DynamicIndex

@[expose] public section

noncomputable section

namespace Cert.KernelIdeal.Exchange

open Cert.KernelIdeal Cert.KernelIdeal.Gen
open Idealize.ShloMosaic Idealize.ShloMosaic.TcCoe Idealize.ShloMosaic.ValueIdx Idealize.ShloMosaic.StableHlo Cert.Attention

variable {F : FTy → Type} [FloatOps F]

/-- Where device `c`'s columns start, as its words compute it. -/
def startWord (c : Dev nD) : BitVec 32 :=
  let w := IntOp.muli (IntOp.remui .host (IntOp.divui .host (Dev.word c) 1#32) 8#32) 256#32
  Scalar.select (IntOp.cmpi .slt w 0#32) (IntOp.addi w 2048#32) w

theorem startWord_toInt (c : Dev nD) : (startWord c).toInt = ((256 * c.val : Nat) : Int) := by
  revert c; decide +kernel

variable (m : (ℓ : Loc nD τ sig) → Buf (Elt F) ℓ) (c : Dev nD)

theorem fits_wq : S512x2048.Slices ![0, 256 * c.val] S512x256 := by
  have : c.val < 8 := c.isLt
  refine ⟨rfl, fun a => ?_⟩
  match a with
  | ⟨0, _⟩ => show 0 + 512 ≤ 512; omega
  | ⟨1, _⟩ => show 256 * c.val + 256 ≤ 2048; omega

theorem fits_wo : S2048x512.Slices ![256 * c.val, 0] S256x512 := by
  have : c.val < 8 := c.isLt
  refine ⟨rfl, fun a => ?_⟩
  match a with
  | ⟨0, _⟩ => show 256 * c.val + 256 ≤ 2048; omega
  | ⟨1, _⟩ => show 0 + 512 ≤ 512; omega

theorem wq_cut : V1 m c main_v9 = extractStridedSlice S512x256 ![0, 256 * c.val] (m ((c : Thread nD τ).loc main_arg1)) (fits_wq c) := by
  have e : V1 m c main_v9 = Host.dynamicSlice S512x256 (m ((c : Thread nD τ).loc main_arg1)) (fun k => ((![0#32, startWord c] : Fin 2 → BitVec 32) k).toInt) sliceFits_S512x2048_S512x256 := by
    unfold V1
    after_results
    refine congrArg (fun s => Host.dynamicSlice S512x256 _ s sliceFits_S512x2048_S512x256) (funext fun k => ?_)
    match k with
    | 0 => after_results; rfl
    | 1 => after_results; rfl
  rw [e]
  exact Host.dynamicSlice_eq_extractStridedSlice _ _ _ _ _ (fits_wq c) fun a => match a with
    | ⟨0, _⟩ => rfl
    | ⟨1, _⟩ => startWord_toInt c

theorem wo_cut : V1 m c main_v14 = extractStridedSlice S256x512 ![256 * c.val, 0] (m ((c : Thread nD τ).loc main_arg4)) (fits_wo c) := by
  have e : V1 m c main_v14 = Host.dynamicSlice S256x512 (m ((c : Thread nD τ).loc main_arg4)) (fun k => ((![startWord c, 0#32] : Fin 2 → BitVec 32) k).toInt) sliceFits_S2048x512_S256x512 := by
    unfold V1
    after_results
    refine congrArg (fun s => Host.dynamicSlice S256x512 _ s sliceFits_S2048x512_S256x512) (funext fun k => ?_)
    match k with
    | 0 => after_results; rfl
    | 1 => after_results; rfl
  rw [e]
  exact Host.dynamicSlice_eq_extractStridedSlice _ _ _ _ _ (fits_wo c) fun a => match a with
    | ⟨0, _⟩ => startWord_toInt c
    | ⟨1, _⟩ => rfl

end Cert.KernelIdeal.Exchange
-- ==== Proof.RefValue.lean ====
/-
The reference's result, read as the sums of `Attention`.
-/
module

public import proofs.«01_k».proof.Proof.Gen.ReferenceIdeal.Read
public import proofs.«01_k».proof.Proof.Attention
public import Idealize.ShloMosaic.Lib.KernelVsHost

@[expose] public section

noncomputable section

namespace Cert.ReferenceIdeal.Meaning

open Cert.ReferenceIdeal Cert.ReferenceIdeal.Gen Cert.ReferenceIdeal.Read Idealize.ShloMosaic Idealize.ShloMosaic.ValueIdx Cert.Attention

/-! ## The mask -/

/-- The sign of a word, as the host computes it. -/
def signWord (w : BitVec 32) : BitVec 32 := if w = 0 then 0 else if w.msb then -1 else 1

/-- The block of an index in the host's words: a quotient of 64, rounded down. -/
def hostBlock (w : BitVec 32) : BitVec 32 :=
  Scalar.select (IntOp.andi (IntOp.cmpi .ne (signWord w) (signWord 64#32)) (IntOp.cmpi .ne (IntOp.remsi .host w 64#32) 0#32))
    (IntOp.subi (IntOp.divsi .host w 64#32) 1#32) (IntOp.divsi .host w 64#32)

theorem hostBlock_eq (i : Fin 256) : hostBlock (BitVec.ofNat 32 i.val) = BitVec.ofNat 32 (i.val / 64) := by
  revert i; decide +kernel

theorem sle_block (a b : Fin 4) : IntOp.cmpi .sle (BitVec.ofNat 32 a.val) (BitVec.ofNat 32 b.val) = 1#1 ↔ a.val ≤ b.val := by
  revert a b; decide +kernel

theorem rowBlock_apply (i : S256.Idx) : val_main_v4 (F := Ideal) i = hostBlock (BitVec.ofNat 32 (i 0).val) := by
  simp only [val_main_v4_apply, val_main_call0_v11_apply, val_main_call0_v6_apply, val_main_call0_v5_apply, val_main_call0_v10_apply, val_main_call0_v8_apply,
    val_main_call0_v7_apply, val_main_call0_v9_apply, val_main_call0_v13_apply, val_main_call0_v12_apply, val_main_call0_v2_apply, val_main_call0_v1_apply]
  rfl

theorem colBlock_apply (i : S256.Idx) : val_main_v7 (F := Ideal) i = hostBlock (BitVec.ofNat 32 (i 0).val) := by
  simp only [val_main_v7_apply, val_main_call1_v11_apply, val_main_call1_v6_apply, val_main_call1_v5_apply, val_main_call1_v10_apply, val_main_call1_v8_apply,
    val_main_call1_v7_apply, val_main_call1_v9_apply, val_main_call1_v13_apply, val_main_call1_v12_apply, val_main_call1_v2_apply, val_main_call1_v1_apply]
  rfl

theorem mask_seen (i j : Fin 256) : val_main_v11 (F := Ideal) (ix2 i j) = 1#1 ↔ seen i j := by
  rw [val_main_v11_apply, val_main_v9_apply, val_main_v8_apply, val_main_v10_apply, val_main_v5_apply, rowBlock_apply, colBlock_apply]
  show IntOp.cmpi .sle (hostBlock (BitVec.ofNat 32 j.val)) (hostBlock (BitVec.ofNat 32 i.val)) = 1#1 ↔ _
  rw [hostBlock_eq, hostBlock_eq]
  exact sle_block ⟨j.val / 64, by omega⟩ ⟨i.val / 64, by omega⟩

instance : Std.Commutative (IntOp.ori (w := 1)) := ⟨by decide⟩
instance : Std.Associative (IntOp.ori (w := 1)) := ⟨by decide⟩

/-- Every query sees a key: itself. -/
theorem keep_apply (i : Fin 256) : val_main_v24 (F := Ideal) (ix1 i) = 1#1 := by
  unfold val_main_v24
  rw [Host.reduce_eq_fold (IntOp.ori (w := 1))]
  have key : ∀ (s : Finset S256x256.Idx) (f : S256x256.Idx → BitVec 1) (k : S256x256.Idx), k ∈ s → f k = 1#1 → s.fold IntOp.ori 0#1 f = 1#1 := by
    intro s f k hk hf
    classical
    rw [← Finset.insert_erase hk, Finset.fold_insert (Finset.notMem_erase _ _), hf]
    have hz : ∀ z : BitVec 1, IntOp.ori 1#1 z = 1#1 := by decide
    exact hz _
  refine key _ _ (ix2 i i) ?_ ((mask_seen i i).2 (le_refl _))
  refine Finset.mem_filter.2 ⟨Finset.mem_univ _, funext fun a => Fin.ext ?_⟩
  match a with
  | ⟨0, _⟩ => exact Shape.ReducesTo.drop_apply_val reducesTo_S256x256_S256_d1 (ix2 i i) 0

/-! ## The heads -/

section Values

variable (x0 : (⟨S2x256x512, .bf16⟩ : BufTy).Contents (Elt Ideal)) (x1 : (⟨S512x2048, .bf16⟩ : BufTy).Contents (Elt Ideal))
  (x2 x3 : (⟨S2x256x32x64, .bf16⟩ : BufTy).Contents (Elt Ideal)) (x4 : (⟨S2048x512, .bf16⟩ : BufTy).Contents (Elt Ideal))

/-- The queries of batch `b`, head `h`. -/
def queries (b : Fin 2) (h : Fin 32) (i : Fin 256) (d : Fin 64) : EReal := ∑ l : Fin 512, x0 (ix3 b i l) * x1 (ix2 l (col (n := 32) rfl h d))

/-- The scores of batch `b`, head `h`. -/
def scores (b : Fin 2) (h : Fin 32) : Fin 256 → Fin 256 → EReal := score (queries x0 x1 b h) fun j d => x2 (ix4 b j h d)

theorem queries_apply (b : Fin 2) (i : Fin 256) (h : Fin 32) (d : Fin 64) :
    val_main_v2 (F := Ideal) x0 x1 (ix4 b i h d) = queries x0 x1 b h i d := by
  rw [val_main_v2_apply]
  have e : idx_main_v2 (ix4 b i h d) = ix3 b i (col (n := 32) rfl h d) := by
    have := b.isLt; have := i.isLt; have := h.isLt; have := d.isLt
    funext a; apply Fin.ext; match a with
    | ⟨0, _⟩ => show ((((b.val * 256 + i.val) * 32 + h.val) * 64 + d.val)) / 524288 = b.val; omega
    | ⟨1, _⟩ => show ((((b.val * 256 + i.val) * 32 + h.val) * 64 + d.val)) / 2048 % 256 = i.val; omega
    | ⟨2, _⟩ => show ((((b.val * 256 + i.val) * 32 + h.val) * 64 + d.val)) % 2048 = h.val * 64 + d.val; omega
  rw [e]
  refine (val_main_v0_apply x0 x1 _).trans (Finset.sum_congr rfl fun l _ => congrArg₂ (· * ·) (congrArg x0 ?_) (congrArg x1 ?_))
  · funext a; match a with
    | ⟨0, _⟩ => rfl
    | ⟨1, _⟩ => rfl
    | ⟨2, _⟩ => rfl
  · funext a; match a with
    | ⟨0, _⟩ => rfl
    | ⟨1, _⟩ => rfl

theorem scores_apply (b : Fin 2) (h : Fin 32) (i j : Fin 256) :
    val_main_v18 (F := Ideal) x0 x1 x2 (ix4 b h i j) = scores x0 x1 x2 b h i j := by
  rw [val_main_v18_apply, val_main_call2_v1_apply, val_main_v17_apply]
  have em : idx_main_v17 (idx_main_call2_v1 (ix4 b h i j)) = ix2 i j := by
    funext a; match a with
    | ⟨0, _⟩ => rfl
    | ⟨1, _⟩ => rfl
  rw [em]
  unfold scores score
  by_cases hs : seen i j
  · rw [if_pos hs, (mask_seen i j).2 hs, select_one]
    rw [val_main_v16_apply, val_main_v15_apply]
    refine congrArg (· * _) ?_
    refine (val_main_v12_apply x0 x1 x2 _).trans (Finset.sum_congr rfl fun d _ => congrArg₂ (· * ·) ?_ (congrArg x2 ?_))
    · rw [← queries_apply]
      refine congrArg _ ?_
      funext a; match a with
      | ⟨0, _⟩ => rfl
      | ⟨1, _⟩ => rfl
      | ⟨2, _⟩ => rfl
      | ⟨3, _⟩ => rfl
    · funext a; match a with
      | ⟨0, _⟩ => rfl
      | ⟨1, _⟩ => rfl
      | ⟨2, _⟩ => rfl
      | ⟨3, _⟩ => rfl
  · have : val_main_v11 (F := Ideal) (ix2 i j) = 0#1 := by
      have := mt (mask_seen i j).1 hs
      revert this; generalize val_main_v11 (F := Ideal) (ix2 i j) = w; revert w; decide
    rw [if_neg hs, this, select_zero, val_main_call2_v2_apply]; rfl

theorem reduces_row : S2x32x256x256.Reduces [3] S2x32x256 := by decide

theorem lift_row (b : Fin 2) (h : Fin 32) (i : Fin 256) (k : Fin 256) : reduces_row.lift (ix3 b h i) k = ix4 b h i k := by
  funext a; apply Fin.ext; match a with
  | ⟨0, _⟩ => rfl
  | ⟨1, _⟩ => rfl
  | ⟨2, _⟩ => rfl
  | ⟨3, _⟩ => rfl

theorem max_apply (b : Fin 2) (h : Fin 32) (i : Fin 256) :
    val_main_v19 (F := Ideal) x0 x1 x2 (ix3 b h i) = rowMax (scores x0 x1 x2 b h i) := by
  unfold val_main_v19 val_main_cst_2
  rw [hostReduce_maximumf_eq_multiReduction _ 0xFF800000#32 _ _ reduces_row (.inl rfl) rfl]
  refine (Ideal.multiReduction_maximumf_single _ _ reduces_row (.inl rfl) rfl (ix3 b h i)).trans ?_
  unfold rowMax
  have : (val_main_v18 (F := Ideal) x0 x1 x2 ∘ reduces_row.lift (ix3 b h i)) = scores x0 x1 x2 b h i :=
    funext fun k => (congrArg (val_main_v18 (F := Ideal) x0 x1 x2) (lift_row b h i k)).trans (scores_apply x0 x1 x2 b h i k)
  rw [this]; rfl

theorem lifted_apply (b : Fin 2) (h : Fin 32) (i j : Fin 256) :
    val_main_v23 (F := Ideal) x0 x1 x2 (ix4 b h i j) = lifted (scores x0 x1 x2 b h i) j := by
  rw [val_main_v23_apply, val_main_v22_apply, scores_apply, val_main_v21_apply, val_main_v20_apply]
  have e : idx_main_v20 (idx_main_v21 (ix4 b h i j)) = ix3 b h i := by
    funext a; match a with
    | ⟨0, _⟩ => rfl
    | ⟨1, _⟩ => rfl
    | ⟨2, _⟩ => rfl
  rw [e, max_apply]; rfl

theorem sum_apply (b : Fin 2) (h : Fin 32) (i : Fin 256) :
    val_main_v26 (F := Ideal) x0 x1 x2 (ix3 b h i) = ∑ l, lifted (scores x0 x1 x2 b h i) l := by
  rw [val_main_v26_apply, val_main_cst_4_apply]
  have z : (FloatOps.ofBits .f32 0x00000000#32 : Ideal .f32) = (0 : EReal) := Ideal.ofBits_zero_f32
  refine (congrArg (· + _) z).trans ((zero_add _).trans (Finset.sum_congr rfl fun k _ => ?_))
  rw [← lifted_apply]
  refine congrArg _ ?_
  funext a; match a with
  | ⟨0, _⟩ => rfl
  | ⟨1, _⟩ => rfl
  | ⟨2, _⟩ => rfl
  | ⟨3, _⟩ => rfl

theorem weight_apply (b : Fin 2) (h : Fin 32) (i j : Fin 256) :
    val_main_v32 (F := Ideal) x0 x1 x2 (ix4 b h i j) = weight (scores x0 x1 x2 b h i) j := by
  have keep : ∀ u : S256.Idx, (u 0).val = i.val → val_main_v24 (F := Ideal) u = 1#1 := fun u hu => by
    have : u = ix1 i := by
      funext a; apply Fin.ext; match a with
      | ⟨0, _⟩ => exact hu
    rw [this, keep_apply]
  rw [val_main_v32_apply, val_main_call4_v1_apply, val_main_v31_apply, keep _ rfl, select_one, val_main_v30_apply, lifted_apply, val_main_v29_apply,
    val_main_v28_apply, val_main_call3_v1_apply, val_main_v25_apply, keep _ rfl, select_one, val_main_v27_apply]
  have e : idx_main_v27 (idx_main_v29 (ix4 b h i j)) = ix3 b h i := by
    funext a; match a with
    | ⟨0, _⟩ => rfl
    | ⟨1, _⟩ => rfl
    | ⟨2, _⟩ => rfl
  rw [e, sum_apply]; rfl

theorem head_apply (b : Fin 2) (h : Fin 32) (d : Fin 64) (i : Fin 256) :
    val_main_v34 (F := Ideal) x0 x1 x2 x3 (ix4 b h d i) = attend (queries x0 x1 b h) (fun j d => x2 (ix4 b j h d)) (fun j d => x3 (ix4 b j h d)) i d := by
  refine (val_main_v34_apply x0 x1 x2 x3 _).trans ?_
  unfold attend
  refine Finset.sum_congr rfl fun j _ => (mul_comm _ _).trans (congrArg₂ (· * ·) ?_ (congrArg x3 ?_))
  · refine Eq.trans (congrArg _ ?_) (weight_apply x0 x1 x2 b h i j)
    funext a; match a with
    | ⟨0, _⟩ => rfl
    | ⟨1, _⟩ => rfl
    | ⟨2, _⟩ => rfl
    | ⟨3, _⟩ => rfl
  · funext a; match a with
    | ⟨0, _⟩ => rfl
    | ⟨1, _⟩ => rfl
    | ⟨2, _⟩ => rfl
    | ⟨3, _⟩ => rfl

/-- The reference's result. -/
theorem value_apply (b : Fin 2) (i : Fin 256) (o : Fin 512) :
    val_main_v39 (F := Ideal) x0 x1 x2 x3 x4 (ix3 b i o)
      = project (n := 32) rfl (fun b i l => x0 (ix3 b i l)) (fun l t => x1 (ix2 l t)) (fun b j h d => x2 (ix4 b j h d)) (fun b j h d => x3 (ix4 b j h d))
          (fun t o => x4 (ix2 t o)) b i o := by
  refine (val_main_v38_apply x0 x1 x2 x3 x4 _).trans ?_
  unfold project
  refine Finset.sum_congr rfl fun t _ => congrArg₂ (· * ·) ?_ (congrArg x4 ?_)
  · show val_main_v36 (F := Ideal) x0 x1 x2 x3 _ = _
    rw [val_main_v36_apply, val_main_v35_apply]
    refine Eq.trans (congrArg _ ?_) (head_apply x0 x1 x2 x3 b (headOf (n := 32) rfl t) (inHead t) i)
    have := b.isLt; have := i.isLt; have := t.isLt
    funext a; apply Fin.ext; match a with
    | ⟨0, _⟩ => show ((b.val * 256 + i.val) * 2048 + t.val) / 524288 = b.val; omega
    | ⟨1, _⟩ => show ((b.val * 256 + i.val) * 2048 + t.val) / 64 % 32 = t.val / 64; omega
    | ⟨2, _⟩ => show ((b.val * 256 + i.val) * 2048 + t.val) % 64 = t.val % 64; omega
    | ⟨3, _⟩ => show ((b.val * 256 + i.val) * 2048 + t.val) / 2048 % 256 = i.val; omega
  · funext a; match a with
    | ⟨0, _⟩ => rfl
    | ⟨1, _⟩ => rfl

end Values

end Cert.ReferenceIdeal.Meaning
-- ==== Proof.Equation.lean ====
/-
The devices' result and the reference's are the same array.
-/
module

public import proofs.«01_k».proof.Proof.Given
public import proofs.«01_k».proof.Proof.RefValue
public import Idealize.ShloMosaic.Lib.Layout

@[expose] public section

noncomputable section

namespace Cert.KernelIdeal.Exchange

open Cert.KernelIdeal Cert.KernelIdeal.Gen
open Idealize.ShloMosaic Idealize.ShloMosaic.TcCoe Idealize.ShloMosaic.ValueIdx Cert.Attention

variable (m : (ℓ : Loc nD τ sig) → Buf (Elt Ideal) ℓ)
  (x0 : Vec Ideal S2x256x512 .bf16) (x1 : Vec Ideal S512x2048 .bf16) (x2 x3 : Vec Ideal Cert.ReferenceIdeal.S2x256x32x64 .bf16) (x4 : Vec Ideal S2048x512 .bf16)

/-- Every device holds the activations and both projections whole, and its own heads of the keys and values. -/
def Holds : Prop := ∀ c : Dev nD,
  m ((c.tc : Thread nD τ).loc main_arg0) = x0 ∧ m ((c.tc : Thread nD τ).loc main_arg1) = x1
    ∧ m ((c.tc : Thread nD τ).loc main_arg2) = Layout.block ⟨4, ![2, 256, 4, 64]⟩ ⟨4, ![2, 256, 32, 64]⟩ 2 8 c x2
    ∧ m ((c.tc : Thread nD τ).loc main_arg3) = Layout.block ⟨4, ![2, 256, 4, 64]⟩ ⟨4, ![2, 256, 32, 64]⟩ 2 8 c x3
    ∧ m ((c.tc : Thread nD τ).loc main_arg4) = x4

variable {m x0 x1 x2 x3 x4} (H : Holds m x0 x1 x2 x3 x4) (c : Dev nD)

include H

theorem ins_x : (ins m c).x = x0 := (V1_of m c main_arg0 (by decide)).trans (H c).1

theorem ins_wq (l : Fin 512) (t : Fin 256) : (ins m c).wq (ix2 l t) = x1 (ix2 l (share c t)) := by
  show V1 m c main_v9 (ix2 l t) = _
  rw [wq_cut, show m ((c : Thread nD τ).loc main_arg1) = x1 from (H c).2.1]
  exact extractStridedSlice_apply _ x1 (fits_wq c) _ (ix2 l (share c t)) (fun a => match a with
    | ⟨0, _⟩ => by show l.val = 0 + l.val; omega
    | ⟨1, _⟩ => by show c.val * 256 + t.val = 256 * c.val + t.val; omega)

theorem ins_wo (t : Fin 256) (o : Fin 512) : (ins m c).wo (ix2 t o) = x4 (ix2 (share c t) o) := by
  show V1 m c main_v14 (ix2 t o) = _
  rw [wo_cut, show m ((c : Thread nD τ).loc main_arg4) = x4 from (H c).2.2.2.2]
  exact extractStridedSlice_apply _ x4 (fits_wo c) _ (ix2 (share c t) o) (fun a => match a with
    | ⟨0, _⟩ => by show c.val * 256 + t.val = 256 * c.val + t.val; omega
    | ⟨1, _⟩ => by show o.val = 0 + o.val; omega)

omit H in
theorem block_head (c : Fin 8) (x : Vec Ideal Cert.ReferenceIdeal.S2x256x32x64 .bf16) (b : Fin 2) (j : Fin 256) (h : Fin 4) (d : Fin 64) :
    Layout.block ⟨4, ![2, 256, 4, 64]⟩ ⟨4, ![2, 256, 32, 64]⟩ 2 8 c x (by decide) (ix4 b j h d) = x (ix4 b j (shareHead c h) d) := by
  refine congrArg x (funext fun a => Fin.ext ?_)
  match a with
  | ⟨0, _⟩ => rfl
  | ⟨1, _⟩ => rfl
  | ⟨2, _⟩ => rfl
  | ⟨3, _⟩ => rfl

theorem ins_k (b : Fin 2) (j : Fin 256) (h : Fin 4) (d : Fin 64) : (ins m c).k (ix4 b j h d) = x2 (ix4 b j (shareHead c h) d) :=
  (congrFun ((V1_of m c main_arg2 (by decide)).trans (H c).2.2.1) (ix4 b j h d)).trans (block_head c x2 b j h d)

theorem ins_v (b : Fin 2) (j : Fin 256) (h : Fin 4) (d : Fin 64) : (ins m c).v (ix4 b j h d) = x3 (ix4 b j (shareHead c h) d) :=
  (congrFun ((V1_of m c main_arg3 (by decide)).trans (H c).2.2.2.1) (ix4 b j h d)).trans (block_head c x3 b j h d)

theorem result_apply (b : Fin 2) (r : Fin 256) (o : Fin 512) :
    result m (ix3 b r o) = Cert.ReferenceIdeal.Read.val_main_v39 (F := Ideal) x0 x1 x2 x3 x4 (ix3 b r o) := by
  refine Eq.trans ?_ (Cert.ReferenceIdeal.Meaning.value_apply x0 x1 x2 x3 x4 b r o).symm
  refine Eq.trans ?_ (project_split _ _ _ _ _ b r o).symm
  refine (outC_apply (parts m) b r o).trans (Finset.sum_congr rfl fun c _ => ?_)
  refine (partial_apply (ins m c) b r o).trans ?_
  unfold shareOf
  have ex : (fun (b : Fin 2) (i : Fin 256) (l : Fin 512) => (ins m c).x (ix3 b i l)) = fun b i l => x0 (ix3 b i l) := by rw [ins_x H c]
  have eq : (fun (l : Fin 512) (t : Fin 256) => (ins m c).wq (ix2 l t)) = fun l t => x1 (ix2 l (share c t)) := funext fun l => funext fun t => ins_wq H c l t
  have eo : (fun (t : Fin 256) (o : Fin 512) => (ins m c).wo (ix2 t o)) = fun t o => x4 (ix2 (share c t) o) := funext fun t => funext fun o => ins_wo H c t o
  have ek : (fun (b : Fin 2) (j : Fin 256) (h : Fin 4) (d : Fin 64) => (ins m c).k (ix4 b j h d)) = fun b j h d => x2 (ix4 b j (shareHead c h) d) :=
    funext fun b => funext fun j => funext fun h => funext fun d => ins_k H c b j h d
  have ev : (fun (b : Fin 2) (j : Fin 256) (h : Fin 4) (d : Fin 64) => (ins m c).v (ix4 b j h d)) = fun b j h d => x3 (ix4 b j (shareHead c h) d) :=
    funext fun b => funext fun j => funext fun h => funext fun d => ins_v H c b j h d
  rw [ex, eq, eo, ek, ev]

/-- What every device ends with is the reference's value. -/
theorem result_eq : result m = Cert.ReferenceIdeal.Read.val_main_v39 (F := Ideal) x0 x1 x2 x3 x4 :=
  funext fun i => (congrArg _ (eq_ix3 i)).trans ((result_apply H (i 0) (i 1) (i 2)).trans (congrArg _ (eq_ix3 i).symm))

end Cert.KernelIdeal.Exchange
-- ==== Proof.lean ====
/-
The certificate: the three programs terminate with their arguments unchanged and their counters at zero, the idealized kernel is the
kernel over the extended reals, and every device of it ends with the idealized reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Word
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel terminates with its arguments as launched and its counters at zero. -/
theorem kernel : quiescent_Kernel (hKernel := Cert.Kernel.Gen.facts) := fun m g _ => Cert.Kernel.Exchange.runs m g

/-- So does the idealized kernel. -/
theorem kernelIdeal : quiescent_KernelIdeal (hKernelIdeal := Cert.KernelIdeal.Gen.facts) := fun m g _ =>
  (θ_run _ _ _).mono (fun r h => ⟨fun c => (h.1 c).2, h.2⟩) (Cert.KernelIdeal.Exchange.runs m g)

/-- So does the idealized reference, which has no counters. -/
theorem referenceIdeal : quiescent_ReferenceIdeal (hReferenceIdeal := Cert.ReferenceIdeal.Gen.facts) := fun m g _ =>
  (θ_run _ _ _).mono (fun r h => ⟨fun c => (h c).2, funext fun s => match s with
    | ⟨_, .reg k⟩ => k.elim0
    | ⟨_, .dma k⟩ => k.elim0⟩) (Cert.ReferenceIdeal.Value.run m g)

/-- Every device of the idealized kernel ends with the idealized reference's result. -/
theorem same : algebraic_KernelIdeal_ReferenceIdeal (hKernelIdeal := Cert.KernelIdeal.Gen.facts) (hReferenceIdeal := Cert.ReferenceIdeal.Gen.facts) :=
  fun m g m' g' _ H =>
    ⟨Cert.KernelIdeal.Exchange.result m, (θ_run _ _ _).mono (fun r h c => h.1 c) (Cert.KernelIdeal.Exchange.runs m g),
      (θ_run _ _ _).mono (fun r h => ⟨(h 0).1.trans ((Cert.ReferenceIdeal.Read.val_main_v39_eq m' 0).trans (Cert.KernelIdeal.Exchange.result_eq H).symm), (h 0).2⟩)
        (Cert.ReferenceIdeal.Value.run m' g')⟩

theorem claim : Cert.Claim := ⟨Cert.Kernel.Gen.facts, Cert.KernelIdeal.Gen.facts, Cert.ReferenceIdeal.Gen.facts, kernel, kernelIdeal, referenceIdeal, trivial, same⟩

end Cert.Proof

end
